-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "neg" .f32 0xF149F2CA#32 ⊥
  ∧ IdealRules.named_const.Statement Cert.KernelIdeal.κ "off" .f32 0xCE6E6B28#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v36_8) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S64x128x64 : Shape := ⟨3, ![64, 128, 64]⟩
abbrev S64x16272 : Shape := ⟨2, ![64, 16272]⟩
abbrev S64x64 : Shape := ⟨2, ![64, 64]⟩
abbrev S16 : Shape := ⟨1, ![16]⟩
abbrev S_ : Shape := ⟨0, ![]⟩

class Facts : Prop where
  bcast_S_S64x128x64 : S_.BroadcastsInDim S64x128x64 (![] : Fin 0 → Fin S64x128x64.rank)
  reducesTo_S64x128x64_S_d0_1_2 : S64x128x64.ReducesTo [0, 1, 2] S_
  h_S_ : 0 < S_.numel
  bcast_S_S64x16272 : S_.BroadcastsInDim S64x16272 (![] : Fin 0 → Fin S64x16272.rank)
  reducesTo_S64x16272_S_d0_1 : S64x16272.ReducesTo [0, 1] S_
  bcast_S_S64x64 : S_.BroadcastsInDim S64x64 (![] : Fin 0 → Fin S64x64.rank)
  reducesTo_S64x64_S_d0_1 : S64x64.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S64x64 .f32) (main_arg5 : FVec F S16 .f32) (main_v13 : IVec S_ 1) (main_v16 : IVec S64x16272 1) : IVec S_ 1 :=
  let main_c_5 : IVec S_ 1 := constantI S_ 1 1#1
  let main_v17 : IVec S_ 1 := (fun x v => Host.reduce IntOp.andi x v reducesTo_S64x16272_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S64x128x64 .f32) (main_arg1 : FVec F S64x128x64 .f32) (main_arg2 : FVec F S64x16272 .f32) (main_arg3 : FVec F S64x16272 .f32) (main_arg4 : FVec F S64x64 .f32) (main_arg5 : FVec F S16 .f32) : IVec S_ 1 :=
  let main_v0 : FVec F S64x128x64 .f32 := Host.absf main_arg0
  let main_cst : FVec F S_ .f32 := constant S_ .f32 0x7F800000#32
  let main_v1 : FVec F S64x128x64 .f32 := broadcastInDim S64x128x64 ![] bcast_S_S64x128x64 main_cst
  let main_v2 : IVec S64x128x64 1 := cmpf .olt main_v0 main_v1
  let main_c : IVec S_ 1 := constantI S_ 1 1#1
  let main_v3 : IVec S_ 1 := (fun x v => Host.reduce IntOp.andi x v reducesTo_S64x128x64_S_d0_1_2 h_S_) main_v2 main_c
  let main_v4 : FVec F S64x128x64 .f32 := Host.absf main_arg1
  let main_cst_0 : FVec F S_ .f32 := constant S_ .f32 0x7F800000#32
  let main_v5 : FVec F S64x128x64 .f32 := broadcastInDim S64x128x64 ![] bcast_S_S64x128x64 main_cst_0
  let main_v6 : IVec S64x128x64 1 := cmpf .olt main_v4 main_v5
  let main_c_1 : IVec S_ 1 := constantI S_ 1 1#1
  let main_v7 : IVec S_ 1 := (fun x v => Host.reduce IntOp.andi x v reducesTo_S64x128x64_S_d0_1_2 h_S_) main_v6 main_c_1
  let main_v8 : IVec S_ 1 := andi main_v3 main_v7
  let main_v9 : FVec F S64x16272 .f32 := Host.absf main_arg2
  let main_cst_2 : FVec F S_ .f32 := constant S_ .f32 0x7F800000#32
  let main_v10 : FVec F S64x16272 .f32 := broadcastInDim S64x16272 ![] bcast_S_S64x16272 main_cst_2
  let main_v11 : IVec S64x16272 1 := cmpf .olt main_v9 main_v10
  let main_c_3 : IVec S_ 1 := constantI S_ 1 1#1
  let main_v12 : IVec S_ 1 := (fun x v => Host.reduce IntOp.andi x v reducesTo_S64x16272_S_d0_1 h_S_) main_v11 main_c_3
  let main_v13 : IVec S_ 1 := andi main_v8 main_v12
  let main_v14 : FVec F S64x16272 .f32 := Host.absf main_arg3
  let main_cst_4 : FVec F S_ .f32 := constant S_ .f32 0x7F800000#32
  let main_v15 : FVec F S64x16272 .f32 := broadcastInDim S64x16272 ![] bcast_S_S64x16272 main_cst_4
  let main_v16 : IVec S64x16272 1 := cmpf .olt main_v14 main_v15
  fn_part1 (F := F) main_arg4 main_arg5 main_v13 main_v16
-- ==== Kernel.lean ====
abbrev S64x128x64 : Shape := ⟨3, ![64, 128, 64]⟩
abbrev S64x16272 : Shape := ⟨2, ![64, 16272]⟩
abbrev S64x64 : Shape := ⟨2, ![64, 64]⟩
abbrev S16 : Shape := ⟨1, ![16]⟩
abbrev S64x16256 : Shape := ⟨2, ![64, 16256]⟩
abbrev S64x128x127 : Shape := ⟨3, ![64, 128, 127]⟩
abbrev S_ : Shape := ⟨0, ![]⟩
abbrev S64x128x128 : Shape := ⟨3, ![64, 128, 128]⟩
abbrev S64x16 : Shape := ⟨2, ![64, 16]⟩
abbrev S64x1x16 : Shape := ⟨3, ![64, 1, 16]⟩
abbrev S64x1x128 : Shape := ⟨3, ![64, 1, 128]⟩
abbrev S1x16 : Shape := ⟨2, ![1, 16]⟩
abbrev S1x128 : Shape := ⟨2, ![1, 128]⟩
abbrev S64x128 : Shape := ⟨2, ![64, 128]⟩
abbrev S64x1 : Shape := ⟨2, ![64, 1]⟩
abbrev S64 : Shape := ⟨1, ![64]⟩
abbrev S16x128x64 : Shape := ⟨3, ![16, 128, 64]⟩
abbrev S16x128x128 : Shape := ⟨3, ![16, 128, 128]⟩
abbrev S16x1x128 : Shape := ⟨3, ![16, 1, 128]⟩
abbrev S16x128 : Shape := ⟨2, ![16, 128]⟩
abbrev S2048x64 : Shape := ⟨2, ![2048, 64]⟩
abbrev S1x1x128 : Shape := ⟨3, ![1, 1, 128]⟩
abbrev S16x8x128 : Shape := ⟨3, ![16, 8, 128]⟩
abbrev S16x136x128 : Shape := ⟨3, ![16, 136, 128]⟩
abbrev S16x136 : Shape := ⟨2, ![16, 136]⟩
abbrev S16x136x1 : Shape := ⟨3, ![16, 136, 1]⟩
abbrev S16x1 : Shape := ⟨2, ![16, 1]⟩
abbrev S16x1x1 : Shape := ⟨3, ![16, 1, 1]⟩

abbrev nBuf : Space → Nat
  | .hbm => 37
  | .vmem => 20
  | .smem => 0
  | _ => 0

abbrev bufTy : (tb : Table) → Fin (tcTables nBuf tb) → BufTy
  | .hbm, ⟨0, _⟩ => ⟨S64x128x64, .f32⟩
  | .hbm, ⟨1, _⟩ => ⟨S64x128x64, .f32⟩
  | .hbm, ⟨2, _⟩ => ⟨S64x16272, .f32⟩
  | .hbm, ⟨3, _⟩ => ⟨S64x16272, .f32⟩
  | .hbm, ⟨4, _⟩ => ⟨S64x64, .f32⟩
  | .hbm, ⟨5, _⟩ => ⟨S16, .f32⟩
  | .hbm, ⟨6, _⟩ => ⟨S64x16256, .f32⟩
  | .hbm, ⟨7, _⟩ => ⟨S64x128x127, .f32⟩
  | .hbm, ⟨8, _⟩ => ⟨S_, .i32⟩
  | .hbm, ⟨9, _⟩ => ⟨S_, .f32⟩
  | .hbm, ⟨10, _⟩ => ⟨S64x128x128, .f32⟩
  | .hbm, ⟨11, _⟩ => ⟨S64x16256, .f32⟩
  | .hbm, ⟨12, _⟩ => ⟨S64x128x127, .f32⟩
  | .hbm, ⟨13, _⟩ => ⟨S_, .i32⟩
  | .hbm, ⟨14, _⟩ => ⟨S_, .f32⟩
  | .hbm, ⟨15, _⟩ => ⟨S64x128x128, .f32⟩
  | .hbm, ⟨16, _⟩ => ⟨S64x16, .f32⟩
  | .hbm, ⟨17, _⟩ => ⟨S64x1x16, .f32⟩
  | .hbm, ⟨18, _⟩ => ⟨S_, .i32⟩
  | .hbm, ⟨19, _⟩ => ⟨S_, .f32⟩
  | .hbm, ⟨20, _⟩ => ⟨S64x1x128, .f32⟩
  | .hbm, ⟨21, _⟩ => ⟨S64x16, .f32⟩
  | .hbm, ⟨22, _⟩ => ⟨S64x1x16, .f32⟩
  | .hbm, ⟨23, _⟩ => ⟨S_, .i32⟩
  | .hbm, ⟨24, _⟩ => ⟨S_, .f32⟩
  | .hbm, ⟨25, _⟩ => ⟨S64x1x128, .f32⟩
  | .hbm, ⟨26, _⟩ => ⟨S1x16, .f32⟩
  | .hbm, ⟨27, _⟩ => ⟨S_, .i32⟩
  | .hbm, ⟨28, _⟩ => ⟨S_, .f32⟩
  | .hbm, ⟨29, _⟩ => ⟨S1x128, .f32⟩
  | .hbm, ⟨30, _⟩ => ⟨S64x128x128, .f32⟩
  | .hbm, ⟨31, _⟩ => ⟨S64x128x128, .f32⟩
  | .hbm, ⟨32, _⟩ => ⟨S64x128, .f32⟩
  | .hbm, ⟨33, _⟩ => ⟨S64x128x127, .f32⟩
  | .hbm, ⟨34, _⟩ => ⟨S64x16256, .f32⟩
  | .hbm, ⟨35, _⟩ => ⟨S64x1, .f32⟩
  | .hbm, ⟨36, _⟩ => ⟨S64, .f32⟩
  | .local _ .vmem, ⟨0, _⟩ => ⟨S16x128x64, .f32⟩
  | .local _ .vmem, ⟨1, _⟩ => ⟨S16x128x64, .f32⟩
  | .local _ .vmem, ⟨2, _⟩ => ⟨S16x128x64, .f32⟩
  | .local _ .vmem, ⟨3, _⟩ => ⟨S16x128x64, .f32⟩
  | .local _ .vmem, ⟨4, _⟩ => ⟨S64x64, .f32⟩
  | .local _ .vmem, ⟨5, _⟩ => ⟨S16x128x128, .f32⟩
  | .local _ .vmem, ⟨6, _⟩ => ⟨S16x128x128, .f32⟩
  | .local _ .vmem, ⟨7, _⟩ => ⟨S16x128x128, .f32⟩
  | .local _ .vmem, ⟨8, _⟩ => ⟨S16x128x128, .f32⟩
  | .local _ .vmem, ⟨9, _⟩ => ⟨S16x1x128, .f32⟩
  | .local _ .vmem, ⟨10, _⟩ => ⟨S16x1x128, .f32⟩
  | .local _ .vmem, ⟨11, _⟩ => ⟨S16x1x128, .f32⟩
  | .local _ .vmem, ⟨12, _⟩ => ⟨S16x1x128, .f32⟩
  | .local _ .vmem, ⟨13, _⟩ => ⟨S1x128, .f32⟩
  | .local _ .vmem, ⟨14, _⟩ => ⟨S16x128x128, .f32⟩
  | .local _ .vmem, ⟨15, _⟩ => ⟨S16x128x128, .f32⟩
  | .local _ .vmem, ⟨16, _⟩ => ⟨S16x128x128, .f32⟩
  | .local _ .vmem, ⟨17, _⟩ => ⟨S16x128x128, .f32⟩
  | .local _ .vmem, ⟨18, _⟩ => ⟨S16x128, .f32⟩
  | .local _ .vmem, ⟨19, _⟩ => ⟨S16x128, .f32⟩
  | _, _ => ⟨S64x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_c : Ref sig .tc := ⟨.hbm, 8, rfl⟩
abbrev main_call0_call0_v0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_0 : Ref sig .tc := ⟨.hbm, 13, rfl⟩
abbrev main_call0_call1_v0 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_c_1 : Ref sig .tc := ⟨.hbm, 18, rfl⟩
abbrev main_call0_call2_v0 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_c_2 : Ref sig .tc := ⟨.hbm, 23, rfl⟩
abbrev main_call0_call3_v0 : Ref sig .tc := ⟨.hbm, 24, rfl⟩
abbrev main_call0_v11 : Ref sig .tc := ⟨.hbm, 25, rfl⟩
abbrev main_call0_v12 : Ref sig .tc := ⟨.hbm, 26, rfl⟩
abbrev main_call0_c_3 : Ref sig .tc := ⟨.hbm, 27, rfl⟩
abbrev main_call0_call4_v0 : Ref sig .tc := ⟨.hbm, 28, rfl⟩
abbrev main_call0_v13 : Ref sig .tc := ⟨.hbm, 29, rfl⟩
abbrev main_call0_v14_0 : Ref sig .tc := ⟨.hbm, 30, rfl⟩
abbrev main_v0_1 : Ref sig .tc := ⟨.hbm, 31, rfl⟩
abbrev main_call0_v14_2 : Ref sig .tc := ⟨.hbm, 32, rfl⟩
abbrev main_call0_v15 : Ref sig .tc := ⟨.hbm, 33, rfl⟩
abbrev main_v0_0 : Ref sig .tc := ⟨.hbm, 34, rfl⟩
abbrev main_call0_v17 : Ref sig .tc := ⟨.hbm, 35, rfl⟩
abbrev main_v0_2 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_37 : BitVec 32 := 0#32
  let c16_i32_38 : BitVec 32 := 16#32
  let v77 : BitVec 32 := Scalar.addi c0_i32_37 c16_i32_38
  let c1_i32_39 : BitVec 32 := 1#32
  ⟨c0_i32_37, v77, c1_i32_39⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S16x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "neg" => some ⊥
  | "off" => some ⊥
  | _ => none
-- ==== ReferenceIdeal.lean ====
abbrev S64x128x64 : Shape := ⟨3, ![64, 128, 64]⟩
abbrev S64x16272 : Shape := ⟨2, ![64, 16272]⟩
abbrev S64x64 : Shape := ⟨2, ![64, 64]⟩
abbrev S16 : Shape := ⟨1, ![16]⟩
abbrev S64x64x128 : Shape := ⟨3, ![64, 64, 128]⟩
abbrev S64x128x128 : Shape := ⟨3, ![64, 128, 128]⟩
abbrev S16256 : Shape := ⟨1, ![16256]⟩
abbrev S_ : Shape := ⟨0, ![]⟩
abbrev S16256x1 : Shape := ⟨2, ![16256, 1]⟩
abbrev S16256x2 : Shape := ⟨2, ![16256, 2]⟩
abbrev S64x16256 : Shape := ⟨2, ![64, 16256]⟩
abbrev S64x16 : Shape := ⟨2, ![64, 16]⟩
abbrev S64 : Shape := ⟨1, ![64]⟩
abbrev S64x1 : Shape := ⟨2, ![64, 1]⟩
abbrev S64x1x1 : Shape := ⟨3, ![64, 1, 1]⟩
abbrev S64x2 : Shape := ⟨2, ![64, 2]⟩

abbrev nBuf : Space → Nat
  | .hbm => 177
  | .vmem => 0
  | .smem => 0
  | _ => 0

abbrev hbmTy0_0 (i : Nat) : BufTy := match i % 128 with
  | 0 => ⟨S64x128x64, .f32⟩
  | 1 => ⟨S64x128x64, .f32⟩
  | 2 => ⟨S64x16272, .f32⟩
  | 3 => ⟨S64x16272, .f32⟩
  | 4 => ⟨S64x64, .f32⟩
  | 5 => ⟨S16, .f32⟩
  | 6 => ⟨S64x64x128, .f32⟩
  | 7 => ⟨S64x128x128, .f32⟩
  | 8 => ⟨S16256, .i32⟩
  | 9 => ⟨S_, .i32⟩
  | 10 => ⟨S16256, .i32⟩
  | 11 => ⟨S16256, .i32⟩
  | 12 => ⟨S_, .i32⟩
  | 13 => ⟨S16256, .i32⟩
  | 14 => ⟨S16256, .i32⟩
  | 15 => ⟨S16256, .i32⟩
  | 16 => ⟨S16256, .i1⟩
  | 17 => ⟨S16256, .i32⟩
  | 18 => ⟨S16256, .i32⟩
  | 19 => ⟨S_, .i32⟩
  | 20 => ⟨S16256, .i32⟩
  | 21 => ⟨S16256, .i1⟩
  | 22 => ⟨S_, .i32⟩
  | 23 => ⟨S16256, .i32⟩
  | 24 => ⟨S16256, .i32⟩
  | 25 => ⟨S16256, .i32⟩
  | 26 => ⟨S_, .i32⟩
  | 27 => ⟨S16256, .i32⟩
  | 28 => ⟨S16256, .i1⟩
  | 29 => ⟨S_, .i32⟩
  | 30 => ⟨S16256, .i32⟩
  | 31 => ⟨S16256, .i32⟩
  | 32 => ⟨S16256, .i32⟩
  | 33 => ⟨S16256x1, .i32⟩
  | 34 => ⟨S16256x1, .i32⟩
  | 35 => ⟨S16256x2, .i32⟩
  | 36 => ⟨S64x16256, .f32⟩
  | 37 => ⟨S64x16, .f32⟩
  | 38 => ⟨S64x16272, .f32⟩
  | 39 => ⟨S_, .f32⟩
  | 40 => ⟨S64x16272, .f32⟩
  | 41 => ⟨S64x16272, .f32⟩
  | 42 => ⟨S_, .f32⟩
  | 43 => ⟨S64x16272, .f32⟩
  | 44 => ⟨S64x16272, .f32⟩
  | 45 => ⟨S64x16272, .f32⟩
  | 46 => ⟨S64x16272, .f32⟩
  | 47 => ⟨S64x16272, .f32⟩
  | 48 => ⟨S64x16, .f32⟩
  | 49 => ⟨S64x16, .i32⟩
  | 50 => ⟨S_, .f32⟩
  | 51 => ⟨S64x16272, .f32⟩
  | 52 => ⟨S_, .f32⟩
  | 53 => ⟨S64, .f32⟩
  | 54 => ⟨S_, .i32⟩
  | 55 => ⟨S_, .i32⟩
  | 56 => ⟨S64x16, .i32⟩
  | 57 => ⟨S64x16272, .f32⟩
  | 58 => ⟨S_, .i32⟩
  | 59 => ⟨S_, .i32⟩
  | 60 => ⟨S64x16272, .f32⟩
  | 61 => ⟨S64x16272, .f32⟩
  | 62 => ⟨S64x16272, .f32⟩
  | 63 => ⟨S64x16272, .f32⟩
  | 64 => ⟨S64, .f32⟩
  | 65 => ⟨S_, .i32⟩
  | 66 => ⟨S_, .i1⟩
  | 67 => ⟨S_, .i32⟩
  | 68 => ⟨S_, .i32⟩
  | 69 => ⟨S_, .f32⟩
  | 70 => ⟨S64x16272, .f32⟩
  | 71 => ⟨S64x16272, .f32⟩
  | 72 => ⟨S_, .f32⟩
  | 73 => ⟨S64x16272, .f32⟩
  | 74 => ⟨S64x16272, .f32⟩
  | 75 => ⟨S64x16272, .f32⟩
  | 76 => ⟨S64x16272, .f32⟩
  | 77 => ⟨S_, .f32⟩
  | 78 => ⟨S64x16272, .f32⟩
  | 79 => ⟨S64x16272, .f32⟩
  | 80 => ⟨S_, .f32⟩
  | 81 => ⟨S64, .f32⟩
  | 82 => ⟨S_, .f32⟩
  | 83 => ⟨S64, .f32⟩
  | 84 => ⟨S64, .f32⟩
  | 85 => ⟨S64x1, .f32⟩
  | 86 => ⟨S64x16272, .f32⟩
  | 87 => ⟨S64x16272, .f32⟩
  | 88 => ⟨S64x16272, .f32⟩
  | 89 => ⟨S_, .f32⟩
  | 90 => ⟨S64, .f32⟩
  | 91 => ⟨S64x1, .f32⟩
  | 92 => ⟨S64x16272, .f32⟩
  | 93 => ⟨S64x16272, .f32⟩
  | 94 => ⟨S64x16272, .f32⟩
  | 95 => ⟨S_, .i32⟩
  | 96 => ⟨S_, .i1⟩
  | 97 => ⟨S_, .i32⟩
  | 98 => ⟨S_, .i32⟩
  | 99 => ⟨S_, .i32⟩
  | 100 => ⟨S_, .i32⟩
  | 101 => ⟨S_, .i32⟩
  | 102 => ⟨S64x1, .i32⟩
  | 103 => ⟨S_, .f32⟩
  | 104 => ⟨S64x16272, .f32⟩
  | 105 => ⟨S64x16272, .i1⟩
  | 106 => ⟨S_, .f32⟩
  | 107 => ⟨S64x16272, .f32⟩
  | 108 => ⟨S64x16272, .f32⟩
  | 109 => ⟨S_, .f32⟩
  | 110 => ⟨S64, .f32⟩
  | 111 => ⟨S64x1, .f32⟩
  | 112 => ⟨S64x16272, .f32⟩
  | 113 => ⟨S64x16272, .f32⟩
  | 114 => ⟨S64x16272, .f32⟩
  | 115 => ⟨S_, .f32⟩
  | 116 => ⟨S64, .f32⟩
  | 117 => ⟨S64, .f32⟩
  | 118 => ⟨S64, .f32⟩
  | 119 => ⟨S64, .f32⟩
  | 120 => ⟨S_, .i32⟩
  | 121 => ⟨S64x1, .i32⟩
  | 122 => ⟨S64x1, .i1⟩
  | 123 => ⟨S_, .i32⟩
  | 124 => ⟨S64x1, .i32⟩
  | 125 => ⟨S64x1, .i32⟩
  | 126 => ⟨S64x1, .i32⟩
  | 127 => ⟨S64x1x1, .i32⟩
  | _ => ⟨S64x128x64, .f32⟩

abbrev hbmTy0_1 (i : Nat) : BufTy := match i % 128 with
  | 0 => ⟨S64x1, .f32⟩
  | 1 => ⟨S64, .f32⟩
  | 2 => ⟨S64, .f32⟩
  | 3 => ⟨S64, .f32⟩
  | 4 => ⟨S64, .i32⟩
  | 5 => ⟨S64, .i32⟩
  | 6 => ⟨S_, .i32⟩
  | 7 => ⟨S64, .i32⟩
  | 8 => ⟨S64, .i1⟩
  | 9 => ⟨S_, .i32⟩
  | 10 => ⟨S64, .i32⟩
  | 11 => ⟨S64, .i32⟩
  | 12 => ⟨S64, .i32⟩
  | 13 => ⟨S_, .i32⟩
  | 14 => ⟨S64, .i32⟩
  | 15 => ⟨S64, .i1⟩
  | 16 => ⟨S_, .i32⟩
  | 17 => ⟨S64, .i32⟩
  | 18 => ⟨S64, .i32⟩
  | 19 => ⟨S64, .i32⟩
  | 20 => ⟨S64x1, .i32⟩
  | 21 => ⟨S64x1, .i32⟩
  | 22 => ⟨S64x2, .i32⟩
  | 23 => ⟨S_, .f32⟩
  | 24 => ⟨S64, .f32⟩
  | 25 => ⟨S64x16272, .f32⟩
  | 26 => ⟨S_, .i32⟩
  | 27 => ⟨S_, .i32⟩
  | 28 => ⟨S64x16256, .f32⟩
  | 29 => ⟨S_, .f32⟩
  | 30 => ⟨S64x128x128, .f32⟩
  | 31 => ⟨S_, .i32⟩
  | 32 => ⟨S16256, .i32⟩
  | 33 => ⟨S16256, .i1⟩
  | 34 => ⟨S_, .i32⟩
  | 35 => ⟨S16256, .i32⟩
  | 36 => ⟨S16256, .i32⟩
  | 37 => ⟨S16256, .i32⟩
  | 38 => ⟨S_, .i32⟩
  | 39 => ⟨S16256, .i32⟩
  | 40 => ⟨S16256, .i1⟩
  | 41 => ⟨S_, .i32⟩
  | 42 => ⟨S16256, .i32⟩
  | 43 => ⟨S16256, .i32⟩
  | 44 => ⟨S16256, .i32⟩
  | 45 => ⟨S16256x1, .i32⟩
  | 46 => ⟨S16256x1, .i32⟩
  | 47 => ⟨S16256x2, .i32⟩
  | 48 => ⟨S64x128x128, .f32⟩
  | _ => ⟨S64x128x64, .f32⟩

abbrev hbmTy (i : Nat) : BufTy := match i / 128 with
  | 0 => hbmTy0_0 i
  | 1 => hbmTy0_1 i
  | _ => ⟨S64x128x64, .f32⟩

abbrev bufTy : (tb : Table) → Fin (tcTables nBuf tb) → BufTy
  | .hbm, ⟨i, _⟩ => hbmTy i
  | _, _ => ⟨S64x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_c_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_values : Ref sig .tc := ⟨.hbm, 48, rfl⟩
abbrev main_indices : Ref sig .tc := ⟨.hbm, 49, rfl⟩
abbrev main_cst_6 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_c_8 : Ref sig .tc := ⟨.hbm, 54, rfl⟩
abbrev main_c_9 : Ref sig .tc := ⟨.hbm, 55, rfl⟩
abbrev main_v36_0 : Ref sig .tc := ⟨.hbm, 56, rfl⟩
abbrev main_v36_1 : Ref sig .tc := ⟨.hbm, 57, rfl⟩
abbrev main_v36_2 : Ref sig .tc := ⟨.hbm, 58, rfl⟩
abbrev main_v36_3 : Ref sig .tc := ⟨.hbm, 59, rfl⟩
abbrev main_v36_4 : Ref sig .tc := ⟨.hbm, 60, rfl⟩
abbrev main_v36_5 : Ref sig .tc := ⟨.hbm, 61, rfl⟩
abbrev main_v36_6 : Ref sig .tc := ⟨.hbm, 62, rfl⟩
abbrev main_v36_7 : Ref sig .tc := ⟨.hbm, 63, rfl⟩
abbrev main_v36_8 : Ref sig .tc := ⟨.hbm, 64, rfl⟩
abbrev main_while0c_c_23 : Ref sig .tc := ⟨.hbm, 65, rfl⟩
abbrev main_while0c_v53 : Ref sig .tc := ⟨.hbm, 66, rfl⟩
abbrev main_while0b_c_23 : Ref sig .tc := ⟨.hbm, 67, rfl⟩
abbrev main_while0b_v53 : Ref sig .tc := ⟨.hbm, 68, rfl⟩
abbrev main_while0b_cst_24 : Ref sig .tc := ⟨.hbm, 69, rfl⟩
abbrev main_while0b_v54 : Ref sig .tc := ⟨.hbm, 70, rfl⟩
abbrev main_while0b_v55 : Ref sig .tc := ⟨.hbm, 71, rfl⟩
abbrev main_while0b_cst_25 : Ref sig .tc := ⟨.hbm, 72, rfl⟩
abbrev main_while0b_v56 : Ref sig .tc := ⟨.hbm, 73, rfl⟩
abbrev main_while0b_v57 : Ref sig .tc := ⟨.hbm, 74, rfl⟩
abbrev main_while0b_v58 : Ref sig .tc := ⟨.hbm, 75, rfl⟩
abbrev main_while0b_v59 : Ref sig .tc := ⟨.hbm, 76, rfl⟩
abbrev main_while0b_cst_26 : Ref sig .tc := ⟨.hbm, 77, rfl⟩
abbrev main_while0b_v60 : Ref sig .tc := ⟨.hbm, 78, rfl⟩
abbrev main_while0b_v61 : Ref sig .tc := ⟨.hbm, 79, rfl⟩
abbrev main_while0b_cst_27 : Ref sig .tc := ⟨.hbm, 80, rfl⟩
abbrev main_while0b_v62 : Ref sig .tc := ⟨.hbm, 81, rfl⟩
abbrev main_while0b_cst_28 : Ref sig .tc := ⟨.hbm, 82, rfl⟩
abbrev main_while0b_v63 : Ref sig .tc := ⟨.hbm, 83, rfl⟩
abbrev main_while0b_v64 : Ref sig .tc := ⟨.hbm, 84, rfl⟩
abbrev main_while0b_v65 : Ref sig .tc := ⟨.hbm, 85, rfl⟩
abbrev main_while0b_v66 : Ref sig .tc := ⟨.hbm, 86, rfl⟩
abbrev main_while0b_v67 : Ref sig .tc := ⟨.hbm, 87, rfl⟩
abbrev main_while0b_v68 : Ref sig .tc := ⟨.hbm, 88, rfl⟩
abbrev main_while0b_cst_29 : Ref sig .tc := ⟨.hbm, 89, rfl⟩
abbrev main_while0b_v69 : Ref sig .tc := ⟨.hbm, 90, rfl⟩
abbrev main_while0b_v70 : Ref sig .tc := ⟨.hbm, 91, rfl⟩
abbrev main_while0b_v71 : Ref sig .tc := ⟨.hbm, 92, rfl⟩
abbrev main_while0b_v72 : Ref sig .tc := ⟨.hbm, 93, rfl⟩
abbrev main_while0b_v73 : Ref sig .tc := ⟨.hbm, 94, rfl⟩
abbrev main_while0b_c_30 : Ref sig .tc := ⟨.hbm, 95, rfl⟩
abbrev main_while0b_v74 : Ref sig .tc := ⟨.hbm, 96, rfl⟩
abbrev main_while0b_v75 : Ref sig .tc := ⟨.hbm, 97, rfl⟩
abbrev main_while0b_c_31 : Ref sig .tc := ⟨.hbm, 98, rfl⟩
abbrev main_while0b_v76 : Ref sig .tc := ⟨.hbm, 99, rfl⟩
abbrev main_while0b_v77 : Ref sig .tc := ⟨.hbm, 100, rfl⟩
abbrev main_while0b_c_32 : Ref sig .tc := ⟨.hbm, 101, rfl⟩
abbrev main_while0b_v78 : Ref sig .tc := ⟨.hbm, 102, rfl⟩
abbrev main_while0b_cst_33 : Ref sig .tc := ⟨.hbm, 103, rfl⟩
abbrev main_while0b_v79 : Ref sig .tc := ⟨.hbm, 104, rfl⟩
abbrev main_while0b_v80 : Ref sig .tc := ⟨.hbm, 105, rfl⟩
abbrev main_while0b_cst_34 : Ref sig .tc := ⟨.hbm, 106, rfl⟩
abbrev main_while0b_v81 : Ref sig .tc := ⟨.hbm, 107, rfl⟩
abbrev main_while0b_v82 : Ref sig .tc := ⟨.hbm, 108, rfl⟩
abbrev main_while0b_cst_35 : Ref sig .tc := ⟨.hbm, 109, rfl⟩
abbrev main_while0b_v83 : Ref sig .tc := ⟨.hbm, 110, rfl⟩
abbrev main_while0b_v84 : Ref sig .tc := ⟨.hbm, 111, rfl⟩
abbrev main_while0b_v85 : Ref sig .tc := ⟨.hbm, 112, rfl⟩
abbrev main_while0b_v86 : Ref sig .tc := ⟨.hbm, 113, rfl⟩
abbrev main_while0b_v87 : Ref sig .tc := ⟨.hbm, 114, rfl⟩
abbrev main_while0b_cst_36 : Ref sig .tc := ⟨.hbm, 115, rfl⟩
abbrev main_while0b_v88 : Ref sig .tc := ⟨.hbm, 116, rfl⟩
abbrev main_while0b_v89 : Ref sig .tc := ⟨.hbm, 117, rfl⟩
abbrev main_while0b_v90 : Ref sig .tc := ⟨.hbm, 118, rfl⟩
abbrev main_while0b_v91 : Ref sig .tc := ⟨.hbm, 119, rfl⟩
abbrev main_while0b_call0_c : Ref sig .tc := ⟨.hbm, 120, rfl⟩
abbrev main_while0b_call0_v0 : Ref sig .tc := ⟨.hbm, 121, rfl⟩
abbrev main_while0b_call0_v1 : Ref sig .tc := ⟨.hbm, 122, rfl⟩
abbrev main_while0b_call0_c_0 : Ref sig .tc := ⟨.hbm, 123, rfl⟩
abbrev main_while0b_call0_v2 : Ref sig .tc := ⟨.hbm, 124, rfl⟩
abbrev main_while0b_call0_v3 : Ref sig .tc := ⟨.hbm, 125, rfl⟩
abbrev main_while0b_call0_v4 : Ref sig .tc := ⟨.hbm, 126, rfl⟩
abbrev main_while0b_call0_v5 : Ref sig .tc := ⟨.hbm, 127, rfl⟩
abbrev main_while0b_v92 : Ref sig .tc := ⟨.hbm, 128, rfl⟩
abbrev main_while0b_v93 : Ref sig .tc := ⟨.hbm, 129, rfl⟩
abbrev main_while0b_v94 : Ref sig .tc := ⟨.hbm, 130, rfl⟩
abbrev main_while0b_v95 : Ref sig .tc := ⟨.hbm, 131, rfl⟩
abbrev main_while0b_v96 : Ref sig .tc := ⟨.hbm, 132, rfl⟩
abbrev main_while0b_v97 : Ref sig .tc := ⟨.hbm, 133, rfl⟩
abbrev main_while0b_c_37 : Ref sig .tc := ⟨.hbm, 134, rfl⟩
abbrev main_while0b_v98 : Ref sig .tc := ⟨.hbm, 135, rfl⟩
abbrev main_while0b_v99 : Ref sig .tc := ⟨.hbm, 136, rfl⟩
abbrev main_while0b_c_38 : Ref sig .tc := ⟨.hbm, 137, rfl⟩
abbrev main_while0b_v100 : Ref sig .tc := ⟨.hbm, 138, rfl⟩
abbrev main_while0b_v101 : Ref sig .tc := ⟨.hbm, 139, rfl⟩
abbrev main_while0b_v102 : Ref sig .tc := ⟨.hbm, 140, rfl⟩
abbrev main_while0b_c_39 : Ref sig .tc := ⟨.hbm, 141, rfl⟩
abbrev main_while0b_v103 : Ref sig .tc := ⟨.hbm, 142, rfl⟩
abbrev main_while0b_v104 : Ref sig .tc := ⟨.hbm, 143, rfl⟩
abbrev main_while0b_c_40 : Ref sig .tc := ⟨.hbm, 144, rfl⟩
abbrev main_while0b_v105 : Ref sig .tc := ⟨.hbm, 145, rfl⟩
abbrev main_while0b_v106 : Ref sig .tc := ⟨.hbm, 146, rfl⟩
abbrev main_while0b_v107 : Ref sig .tc := ⟨.hbm, 147, rfl⟩
abbrev main_while0b_v108 : Ref sig .tc := ⟨.hbm, 148, rfl⟩
abbrev main_while0b_v109 : Ref sig .tc := ⟨.hbm, 149, rfl⟩
abbrev main_while0b_v110 : Ref sig .tc := ⟨.hbm, 150, rfl⟩
abbrev main_while0b_cst_41 : Ref sig .tc := ⟨.hbm, 151, rfl⟩
abbrev main_while0b_v111 : Ref sig .tc := ⟨.hbm, 152, rfl⟩
abbrev main_while0b_v112 : Ref sig .tc := ⟨.hbm, 153, rfl⟩
abbrev main_while0b_c_42 : Ref sig .tc := ⟨.hbm, 154, rfl⟩
abbrev main_while0b_v113 : Ref sig .tc := ⟨.hbm, 155, rfl⟩
abbrev main_v37 : Ref sig .tc := ⟨.hbm, 156, rfl⟩
abbrev main_cst_10 : Ref sig .tc := ⟨.hbm, 157, rfl⟩
abbrev main_v38 : Ref sig .tc := ⟨.hbm, 158, rfl⟩
abbrev main_c_11 : Ref sig .tc := ⟨.hbm, 159, rfl⟩
abbrev main_v39 : Ref sig .tc := ⟨.hbm, 160, rfl⟩
abbrev main_v40 : Ref sig .tc := ⟨.hbm, 161, rfl⟩
abbrev main_c_12 : Ref sig .tc := ⟨.hbm, 162, rfl⟩
abbrev main_v41 : Ref sig .tc := ⟨.hbm, 163, rfl⟩
abbrev main_v42 : Ref sig .tc := ⟨.hbm, 164, rfl⟩
abbrev main_v43 : Ref sig .tc := ⟨.hbm, 165, rfl⟩
abbrev main_c_13 : Ref sig .tc := ⟨.hbm, 166, rfl⟩
abbrev main_v44 : Ref sig .tc := ⟨.hbm, 167, rfl⟩
abbrev main_v45 : Ref sig .tc := ⟨.hbm, 168, rfl⟩
abbrev main_c_14 : Ref sig .tc := ⟨.hbm, 169, rfl⟩
abbrev main_v46 : Ref sig .tc := ⟨.hbm, 170, rfl⟩
abbrev main_v47 : Ref sig .tc := ⟨.hbm, 171, rfl⟩
abbrev main_v48 : Ref sig .tc := ⟨.hbm, 172, rfl⟩
abbrev main_v49 : Ref sig .tc := ⟨.hbm, 173, rfl⟩
abbrev main_v50 : Ref sig .tc := ⟨.hbm, 174, rfl⟩
abbrev main_v51 : Ref sig .tc := ⟨.hbm, 175, rfl⟩
abbrev main_v52 : Ref sig .tc := ⟨.hbm, 176, rfl⟩

abbrev nD : Nat := 1
abbrev τ : Topo := Topo.v7x

variable {F : FTy → Type} [FloatOps F]

abbrev main_while0_count : Scf.Loop 32 := ⟨0#32, 16#32, 1#32⟩
-- ==== Proof.Run.KernelIdeal.lean ====
/-
  The run of `KernelIdeal`, at any float values. The generator writes the frame kit only for this kernel (its body has a counted
  loop that carries six vectors), so the body's triple, the proof data, the run and the frame are here. The loop touches
  no memory: its invariant only says what it carries (`stTo`, one trip's function iterated).
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the body computes, from the blocks it is given -/

/-- What the loop carries: the sampler's keys, the last one-hot, the running k-hot, the keys of the ordering with the
    chosen ones removed, the mask of the chosen ones and the logits chosen so far. -/
abbrev St (F : FTy → Type) : Type :=
  FVec F S16x136x128 .f32 × FVec F S16x136x128 .f32 × FVec F S16x136x128 .f32 × FVec F S16x136x128 .f32
    × FVec F S16x136x128 .f32 × FVec F S16x1x128 .f32

/-- The lane numbers. -/
def lane : IVec S16x1x128 32 := iota .tc S16x1x128 32 [2] iota_S16x1x128_d2_w32

/-- One trip: from the lane numbers, the logits `lg` and the flat positions `fl`, and what is carried before trip `k`. -/
def stepK (ln : IVec S16x1x128 32) (lg fl : FVec F S16x136x128 .f32) (k : Fin k0_t1_loop.trips) (a : St F) : St F :=
  (k0_pay2 a.1 a.2.1, k0_pay3 a.1 a.2.1, k0_pay4 a.1 a.2.1 a.2.2.1,
    k0_pay18 a.2.2.2.1 (k0_pay5 fl a.2.2.2.1), k0_pay19 a.2.2.2.2.1 (k0_pay5 fl a.2.2.2.1),
    k0_pay6 ln lg fl 0#32 1#32 k a.2.2.2.1 a.2.2.2.2.2)

/-- What is carried before trip `k`, from the start `a`. -/
def stTo (ln : IVec S16x1x128 32) (lg fl : FVec F S16x136x128 .f32) (a : St F) : ℕ → St F
  | 0 => a
  | k + 1 => if h : k < k0_t1_loop.trips then stepK ln lg fl ⟨k, h⟩ (stTo ln lg fl a k) else stTo ln lg fl a k

theorem stTo_succ (ln : IVec S16x1x128 32) (lg fl : FVec F S16x136x128 .f32) (a : St F) (k : Fin k0_t1_loop.trips) :
    stTo ln lg fl a (k.val + 1) = stepK ln lg fl k (stTo ln lg fl a k.val) := by
  rw [stTo, dif_pos k.isLt]

/-- What the loop starts from, at keys `ky`. -/
def startK (ky : FVec F S16x136x128 .f32) : St F :=
  (ky, k0_pay16, k0_pay16, ky, k0_pay16, k0_pay17 (Scalar.ofBits .f32 0x00000000#32))

/-- What the loop leaves. -/
def loopK (lg ky : FVec F S16x136x128 .f32) : St F := stTo lane lg k0_pay15 (startK ky) k0_t1_loop.trips

/-- The log-probability column, from the logits `lg`, the final mask `sm` and the chosen logits `st`: the backward chain. -/
def chainK (lg sm : FVec F S16x136x128 .f32) (st : FVec F S16x1x128 .f32) : FVec F S16x1 .f32 :=
  let v111 := k0_pay22 lane lg sm st
  let v117 := k0_pay23 lane st
  let v118 := k0_pay24 lane lg sm st
  let v119 := k0_pay25 lane lg sm st
  let v159 := k0_pay31 lane st v111 v117 v118 v119
  let v165 := k0_pay32 lane st
  let v166 := k0_pay33 lane st v117 v118 v119
  let v168 := k0_pay34 lane st v117 v118 v119
  let v170 := k0_pay35 lane st v117 v118 v119
  let v207 := k0_pay41 lane st v159 v165 v166 v168 v170
  let v213 := k0_pay42 lane st
  let v221 := k0_pay43 lane st v166 v168 v170
  let v269 := k0_pay49 lane st v221
  let v271 := k0_pay50 lane st v207 v213 v221
  let v317 := k0_pay56 lane st v269 4#32
  let v319 := k0_pay57 lane st v269 v271 4#32
  k0_pay62 lane st v317 v319 (k0_pay58 lane) (Scalar.ofBits .f32 0x00000000#32)

/-- The padded grid of logits. -/
def logitsK (x0 x1 : Vec F S16x128x64 .f32) (x2 : Vec F S64x64 .f32) (x3 : Vec F S16x128x128 .f32)
    (x5 : Vec F S16x1x128 .f32) (x7 : Vec F S1x128 .f32) : FVec F S16x136x128 .f32 :=
  k0_pay13 (k0_pay9 x0 x1 x2 x3) (k0_pay11 x7) x5

/-- The padded grid of keys (logits plus gumbel noise). -/
def keysK (x0 x1 : Vec F S16x128x64 .f32) (x2 : Vec F S64x64 .f32) (x3 x4 : Vec F S16x128x128 .f32)
    (x5 x6 : Vec F S16x1x128 .f32) (x7 : Vec F S1x128 .f32) : FVec F S16x136x128 .f32 :=
  k0_pay14 (k0_pay10 x0 x1 x2 x3 x4) (k0_pay11 x7) x5 x6

/-! ## The body's accesses -/

abbrev r0_0 : Rect S16x128x64 := Rect.unit (s := S16x128x64) ![0, 0, 0] S16x128x64.size inb_S16x128x64_S16x128x64_0_0_0
abbrev r0_1 : Rect S16x128x64 := Rect.unit (s := S16x128x64) ![0, 0, 0] S16x128x64.size inb_S16x128x64_S16x128x64_0_0_0
abbrev r0_2 : Rect S64x64 := Rect.unit (s := S64x64) ![0, 0] S64x64.size inb_S64x64_S64x64_0_0
abbrev r0_3 : Rect S16x128x128 := Rect.unit (s := S16x128x128) ![0, 0, 0] S16x128x128.size inb_S16x128x128_S16x128x128_0_0_0
abbrev r0_4 : Rect S16x128x128 := Rect.unit (s := S16x128x128) ![0, 0, 0] S16x128x128.size inb_S16x128x128_S16x128x128_0_0_0
abbrev r0_5 : Rect S16x1x128 := Rect.unit (s := S16x1x128) ![0, 0, 0] S16x1x128.size inb_S16x1x128_S16x1x128_0_0_0
abbrev r0_6 : Rect S16x1x128 := Rect.unit (s := S16x1x128) ![0, 0, 0] S16x1x128.size inb_S16x1x128_S16x1x128_0_0_0
abbrev r0_7 : Rect S1x128 := Rect.unit (s := S1x128) ![0, 0] S1x128.size inb_S1x128_S1x128_0_0
abbrev r0_8 : Rect S16x128x128 := Rect.unit (s := S16x128x128) ![0, 0, 0] S16x128x128.size inb_S16x128x128_S16x128x128_0_0_0
abbrev r0_9 : Rect S16x128x128 := Rect.unit (s := S16x128x128) ![0, 0, 0] S16x128x128.size inb_S16x128x128_S16x128x128_0_0_0
abbrev r0_10 : Rect S16x128 := Rect.unit (s := S16x128) ![0, 0] S16x128.size inb_S16x128_S16x128_0_0

/-! ## What the body leaves in the output windows' buffers -/

/-- What the loop leaves, from the input blocks. -/
def fin (x0 : Vec F S16x128x64 .f32) (x1 : Vec F S16x128x64 .f32) (x2 : Vec F S64x64 .f32) (x3 : Vec F S16x128x128 .f32) (x4 : Vec F S16x128x128 .f32) (x5 : Vec F S16x1x128 .f32) (x6 : Vec F S16x1x128 .f32) (x7 : Vec F S1x128 .f32) : St F :=
  loopK (logitsK (View.ld x0 r0_0) (View.ld x1 r0_1) (View.ld x2 r0_2) (View.ld x3 r0_3) (View.ld x5 r0_5) (View.ld x7 r0_7)) (keysK (View.ld x0 r0_0) (View.ld x1 r0_1) (View.ld x2 r0_2) (View.ld x3 r0_3) (View.ld x4 r0_4) (View.ld x5 r0_5) (View.ld x6 r0_6) (View.ld x7 r0_7))

/-- The log-probability column, from the input blocks. -/
def finL (x0 : Vec F S16x128x64 .f32) (x1 : Vec F S16x128x64 .f32) (x2 : Vec F S64x64 .f32) (x3 : Vec F S16x128x128 .f32) (x4 : Vec F S16x128x128 .f32) (x5 : Vec F S16x1x128 .f32) (x6 : Vec F S16x1x128 .f32) (x7 : Vec F S1x128 .f32) : FVec F S16x1 .f32 :=
  chainK (logitsK (View.ld x0 r0_0) (View.ld x1 r0_1) (View.ld x2 r0_2) (View.ld x3 r0_3) (View.ld x5 r0_5) (View.ld x7 r0_7)) (fin x0 x1 x2 x3 x4 x5 x6 x7).2.2.2.2.1 (fin x0 x1 x2 x3 x4 x5 x6 x7).2.2.2.2.2

/-- Each output window's staging buffer after the body, from the input windows' blocks: its one store. -/
def out0_8 (x0 : Vec F S16x128x64 .f32) (x1 : Vec F S16x128x64 .f32) (x2 : Vec F S64x64 .f32) (x3 : Vec F S16x128x128 .f32) (x4 : Vec F S16x128x128 .f32) (x5 : Vec F S16x1x128 .f32) (x6 : Vec F S16x1x128 .f32) (x7 : Vec F S1x128 .f32) : Vec F S16x128x128 .f32 :=
  View.canon [⟨r0_8, k0_pay61 k0_pay7 (fin x0 x1 x2 x3 x4 x5 x6 x7).2.2.1⟩]
def out0_9 (x0 : Vec F S16x128x64 .f32) (x1 : Vec F S16x128x64 .f32) (x2 : Vec F S64x64 .f32) (x3 : Vec F S16x128x128 .f32) (x4 : Vec F S16x128x128 .f32) (x5 : Vec F S16x1x128 .f32) (x6 : Vec F S16x1x128 .f32) (x7 : Vec F S1x128 .f32) : Vec F S16x128x128 .f32 :=
  View.canon [⟨r0_9, k0_pay60 k0_pay8 (fin x0 x1 x2 x3 x4 x5 x6 x7).2.2.1⟩]
def out0_10 (x0 : Vec F S16x128x64 .f32) (x1 : Vec F S16x128x64 .f32) (x2 : Vec F S64x64 .f32) (x3 : Vec F S16x128x128 .f32) (x4 : Vec F S16x128x128 .f32) (x5 : Vec F S16x1x128 .f32) (x6 : Vec F S16x1x128 .f32) (x7 : Vec F S1x128 .f32) : Vec F S16x128 .f32 :=
  View.canon [⟨r0_10, k0_pay1 (finL x0 x1 x2 x3 x4 x5 x6 x7)⟩]

/-- The one store into window 8's buffer covers it. -/
theorem cover0_8 (p0 : Vec F S16x128x128 .f32) (y : S16x128x128.Idx) :
    ∃ pc ∈ ([⟨r0_8, p0⟩] : List (View.Piece (Elt F) S16x128x128 .f32)), y ∈ pc.1.set :=
  View.cover_of_tiled [⟨r0_8, p0⟩] S16x128x128.size (by rfl) y

/-- The one store into window 9's buffer covers it. -/
theorem cover0_9 (p0 : Vec F S16x128x128 .f32) (y : S16x128x128.Idx) :
    ∃ pc ∈ ([⟨r0_9, p0⟩] : List (View.Piece (Elt F) S16x128x128 .f32)), y ∈ pc.1.set :=
  View.cover_of_tiled [⟨r0_9, p0⟩] S16x128x128.size (by rfl) y

/-- The one store into window 10's buffer covers it. -/
theorem cover0_10 (p0 : Vec F S16x128 .f32) (y : S16x128.Idx) :
    ∃ pc ∈ ([⟨r0_10, p0⟩] : List (View.Piece (Elt F) S16x128 .f32)), y ∈ pc.1.set :=
  View.cover_of_tiled [⟨r0_10, p0⟩] S16x128.size (by rfl) y

/-! ## The loop -/

set_option warn.classDefReducibility false in
/-- The loop's invariant: it holds no memory, and what it carries before trip `k` is `stTo … k`. -/
@[sl_loop] def loopInv_k0_t1 (c : Dev nD) (i : grid0.Coords) (arg1 : Memref sig .tc .vmem S16x128x64 .f32) (harg1 : arg1.IsWhole) (arg2 : Memref sig .tc .vmem S16x128x64 .f32) (harg2 : arg2.IsWhole) (arg3 : Memref sig .tc .vmem S64x64 .f32) (harg3 : arg3.IsWhole) (arg4 : Memref sig .tc .vmem S16x128x128 .f32) (harg4 : arg4.IsWhole) (arg5 : Memref sig .tc .vmem S16x128x128 .f32) (harg5 : arg5.IsWhole) (arg6 : Memref sig .tc .vmem S16x1x128 .f32) (harg6 : arg6.IsWhole) (arg7 : Memref sig .tc .vmem S16x1x128 .f32) (harg7 : arg7.IsWhole) (arg8 : Memref sig .tc .vmem S1x128 .f32) (harg8 : arg8.IsWhole) (arg9 : Memref sig .tc .vmem S16x128x128 .f32) (harg9 : arg9.IsWhole) (arg10 : Memref sig .tc .vmem S16x128x128 .f32) (harg10 : arg10.IsWhole) (arg11 : Memref sig .tc .vmem S16x128 .f32) (harg11 : arg11.IsWhole)
    (v36 : IVec S16x1x128 32) (v67 v68 v74 v75 : FVec F S16x136x128 .f32) (cst_36 : F .f32) (init : St F) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 v36 v67 v68 v74 v75 cst_36 init where
  inv k acc := iprop(⌜acc = stTo v36 v67 v74 init k⌝)
  step k acc := by
    iintro %h
    subst h
    unfold k0_t1_body
    simp only [k0_part1_eq_skeleton]; unfold k0_part1_skel
    sl_exec
    sl_step
    ipureintro
    rw [stTo_succ]; rfl

/-! ## The body's triple -/

set_option maxHeartbeats 4000000 in
/-- The kernel body on whole staging memrefs, the inputs' at read contents `xW` and the outputs' at anything, runs to
    the continuation holding the inputs' as they were and each output's at `out0_W` of the inputs. -/
theorem sound_kernel (c : Dev nD) (i : grid0.Coords) (arg1 : Memref sig .tc .vmem S16x128x64 .f32) (harg1 : arg1.IsWhole) (arg2 : Memref sig .tc .vmem S16x128x64 .f32) (harg2 : arg2.IsWhole) (arg3 : Memref sig .tc .vmem S64x64 .f32) (harg3 : arg3.IsWhole) (arg4 : Memref sig .tc .vmem S16x128x128 .f32) (harg4 : arg4.IsWhole) (arg5 : Memref sig .tc .vmem S16x128x128 .f32) (harg5 : arg5.IsWhole) (arg6 : Memref sig .tc .vmem S16x1x128 .f32) (harg6 : arg6.IsWhole) (arg7 : Memref sig .tc .vmem S16x1x128 .f32) (harg7 : arg7.IsWhole) (arg8 : Memref sig .tc .vmem S1x128 .f32) (harg8 : arg8.IsWhole) (arg9 : Memref sig .tc .vmem S16x128x128 .f32) (harg9 : arg9.IsWhole) (arg10 : Memref sig .tc .vmem S16x128x128 .f32) (harg10 : arg10.IsWhole) (arg11 : Memref sig .tc .vmem S16x128 .f32) (harg11 : arg11.IsWhole)
    (x0 : Vec F S16x128x64 .f32) (x1 : Vec F S16x128x64 .f32) (x2 : Vec F S64x64 .f32) (x3 : Vec F S16x128x128 .f32) (x4 : Vec F S16x128x128 .f32) (x5 : Vec F S16x1x128 .f32) (x6 : Vec F S16x1x128 .f32) (x7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2 x3 x4 x5 x6 x7) ∗ owns (c : Thread nD τ) arg10 fullShare (out0_9 x0 x1 x2 x3 x4 x5 x6 x7) ∗ owns (c : Thread nD τ) arg11 fullShare (out0_10 x0 x1 x2 x3 x4 x5 x6 x7)) -∗ K ⟨⟩))
      ⊢ wp frame (wpE (defs₀ (F := F)) Variants.none c none) Set.univ (cc0__body i arg1 harg1 arg2 harg2 arg3 harg3 arg4 harg4 arg5 harg5 arg6 harg6 arg7 harg7 arg8 harg8 arg9 harg9 arg10 harg10 arg11 harg11) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover0_8 _)
  isplitl [H9]
  · iexists _; isplitr
    swap; · iexact H9
    ipureintro
    exact View.read_writes_eq_canon _ _ _ (cover0_9 _)
  iexists _; isplitr
  swap; · iexact H10
  ipureintro
  exact View.read_writes_eq_canon _ _ _ (cover0_10 _)

/-! ## The pipeline's proof data -/

/-- The proof data of the one pipeline on core `c`: the arrays as the region finds them (`V`); after the body at point
    `t` each input's buffer at its block and each output's at `out0_W` of the input blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
    | ⟨9, _⟩ => out0_9 (iblk m c 0 t) (iblk m c 1 t) (iblk m c 2 t) (iblk m c 3 t) (iblk m c 4 t) (iblk m c 5 t) (iblk m c 6 t) (iblk m c 7 t)
    | ⟨10, _⟩ => out0_10 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) (iblk m c 7 t) := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) (iblk m c 7 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- the launch theorem's implicit arguments are found by unifying its conclusion with this one, which takes unfolding
-- plain definitions in a metavariable's type
set_option backward.isDefEq.respectTransparency.types false in
/-- The launch: every array of the pipeline ends at what the library computes from the proof data, every other unscoped
    buffer at what the host lines after the region leave, and every semaphore counter of the machine at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: the program runs, its arguments end unchanged and the machine is quiescent. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Proof.KernelIdeal

end
-- ==== Proof.Run.ReferenceIdeal.lean ====
/-
The reference program's run. The generated `Gen.run_fold` gives every buffer's final contents as a fold: @main's
operations, sixteen trips of its one host loop, and the operations after the loop. Here the fold is read: an argument
is written by no operation, so it ends as it began (`frame`); the arrays @main computes before the loop are unchanged by
the trips (`atK_keep`); the carried arrays after `k` trips are the `k`-fold step (`Value.atK_agree`).
-/
module

public import proofs.«01_k».proof.Proof.Gen.ReferenceIdeal.Run
public import Idealize.ShloMosaic.Lib.Quiescent

@[expose] public section

set_option maxRecDepth 16384

noncomputable section

namespace Cert.Proof.ReferenceIdeal

open Idealize.ShloMosaic Idealize.ShloMosaic.TcCoe Idealize.SL Idealize.SL.Sem
open Idealize.ShloMosaic.StableHlo
open Cert.ReferenceIdeal Cert.ReferenceIdeal.Gen Cert.ReferenceIdeal.Value

variable {F : FTy → Type} [FloatOps F]

/-- A buffer that neither the condition nor the trip writes. -/
abbrev Untouched (b : Ref sig .tc) : Prop :=
  b ∉ Value.condOps_W ∧ b ∉ while0Ops0_W ∧ b ∉ while0Ops0_1_W ∧ b ∉ while0Ops0_2_W

/-- The references the operations after the loop write, in order. -/
abbrev postW : List (Ref sig .tc) :=
  [main_v37, main_cst_10, main_v38, main_c_11, main_v39, main_v40, main_c_12, main_v41, main_v42, main_v43, main_c_13,
   main_v44, main_v45, main_c_14, main_v46, main_v47, main_v48, main_v49, main_v50, main_v51, main_v52]

theorem post_writes : (hostOps0_1 : List (HloOp τ sig (Elt F))).Forall
    fun op => op.writes ⊆ (postW.map (Proc.devRef (τ := τ) .tc)).toFinset :=
  forall_writes_sub_of_map rfl

variable (m : (ℓ : Loc nD τ sig) → Buf (Elt F) ℓ) (ρ : Dev nD → PrngReg)

/-- The trips leave such a buffer at its contents at the loop's entry. -/
theorem atK_keep (b : Ref sig .tc) (h : Untouched b) (c : Dev nD) : ∀ k : ℕ,
    Value.atK m k c (Proc.devRef .tc b) = after hostOps0 (launchContents m c) (Proc.devRef .tc b)
  | 0 => rfl
  | k + 1 => by
    rw [show Value.atK m (k + 1) c = afterL Value.bodyI (after Value.condOps (Value.atK m k c)) from rfl]
    simp only [Value.bodyI, afterL_cons, afterL_nil]
    rw [after_of_writes_sub while0Ops0_2 _ while0Ops0_2_writes h.2.2.2, after_of_writes_sub while0Ops0_1 _ while0Ops0_1_writes h.2.2.1,
      after_of_writes_sub while0Ops0 _ while0Ops0_writes h.2.1, after_of_writes_sub Value.condOps _ Value.condOps_writes h.1, atK_keep b h c k]

/-- The contents every buffer has when the loop is left. -/
abbrev exitV (c : Dev nD) : Valuation τ sig (Elt F) := after Value.condOps (Value.atK m 16 c)

theorem exit_keep (b : Ref sig .tc) (h : Untouched b) (c : Dev nD) :
    exitV m c (Proc.devRef .tc b) = after hostOps0 (launchContents m c) (Proc.devRef .tc b) := by
  rw [exitV, after_of_writes_sub Value.condOps _ Value.condOps_writes h.1, atK_keep m b h c]

/-- Every unscoped buffer at @main's end. -/
theorem run_final : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = after hostOps0_1 (exitV m c) (Proc.devRef .tc b)) :=
  Value.run_fold m ρ

/-- A buffer no operation writes ends as it began. -/
theorem final_keep (b : Ref sig .tc) (h : Untouched b) (h0 : b ∉ hostOps0_W) (h1 : b ∉ postW) (c : Dev nD) :
    after hostOps0_1 (exitV m c) (Proc.devRef .tc b) = m ((c.tc : Thread nD τ).loc b) := by
  rw [after_of_writes_sub hostOps0_1 _ post_writes h1, exit_keep m b h c, after_of_writes_sub hostOps0 _ hostOps0_writes h0]

/-- The arguments at the end are the arguments. -/
theorem args_keep (c : Dev nD) (r : MemSt nD τ sig (Elt F))
    (h : ∀ (b : Ref sig .tc), (Proc.devRef .tc b : DevRef τ sig).isScoped = false →
      r.mem ((c.tc : Thread nD τ).loc b) = after hostOps0_1 (exitV m c) (Proc.devRef .tc b)) :
    r.mem ((c.tc : Thread nD τ).loc main_arg0) = m ((c.tc : Thread nD τ).loc main_arg0)
    ∧ r.mem ((c.tc : Thread nD τ).loc main_arg1) = m ((c.tc : Thread nD τ).loc main_arg1)
    ∧ r.mem ((c.tc : Thread nD τ).loc main_arg2) = m ((c.tc : Thread nD τ).loc main_arg2)
    ∧ r.mem ((c.tc : Thread nD τ).loc main_arg3) = m ((c.tc : Thread nD τ).loc main_arg3)
    ∧ r.mem ((c.tc : Thread nD τ).loc main_arg4) = m ((c.tc : Thread nD τ).loc main_arg4)
    ∧ r.mem ((c.tc : Thread nD τ).loc main_arg5) = m ((c.tc : Thread nD τ).loc main_arg5) := by
  refine ⟨?_, ?_, ?_, ?_, ?_, ?_⟩ <;>
    exact (h _ rfl).trans (final_keep m _ ⟨by decide +kernel, by decide +kernel, by decide +kernel, by decide +kernel⟩
      (by decide +kernel) (by decide +kernel) c)

/-- The reference runs, its arguments end unchanged, and no counter is left: it declares no semaphore. -/
theorem frame : θ_run (defs (F := F)) (onTc (τ := τ) (main (F := F))) ⟨m, fun _ => 0, ρ⟩
    (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r h => ⟨fun c => args_keep m c r.2 (h c), sem_eq_zero_of_no_sems (by decide) r.2⟩) (run_final m ρ)

end Cert.Proof.ReferenceIdeal

end
-- ==== Proof.Math.Rows.lean ====
/-
The mathematics of one batch row, with no program in sight. A row has 16272 logits and 16272 keys, one per candidate.
Here: the softmax of a row of reals is a row of reals; the sum of exponentials shifted by its maximum is the plain sum
of exponentials; the backward recurrence that adds one logit to a log-sum-exp; and the running log-probability as one
finite sum of reals, whichever end it is summed from.
-/
module

public import Idealize.ShloMosaic.PureOps.Ideal
public import Idealize.ShloMosaic.PureOps.Ideal.Laws

@[expose] public section

noncomputable section

namespace Cert.Proof.Rows

open Idealize.ShloMosaic
open scoped BigOperators

/-- The floor under one minus the one-hot weight before its logarithm is taken. -/
abbrev eps : EReal := Ideal.ofBits .f32 0x2EDBE6FF#32

theorem eps_pos : ∃ r : ℝ, eps = (r : EReal) ∧ 0 < r := by
  refine ⟨_, by simp [eps, Ideal.ofBits, Ideal.ieee]; rfl, by positivity⟩

section Row

variable {ι : Type} [Fintype ι]

/-- A row whose every entry is a real number. -/
def Real' (x : ι → EReal) : Prop := ∃ f : ι → ℝ, x = fun n => (f n : EReal)

theorem real'_of (x : ι → EReal) (h : ∀ n, ∃ r : ℝ, x n = r) : Real' x := by
  choose f hf using h
  exact ⟨f, funext hf⟩

theorem Real'.at {x : ι → EReal} (h : Real' x) (n : ι) : ∃ r : ℝ, x n = r := by
  obtain ⟨f, rfl⟩ := h
  exact ⟨f n, rfl⟩

/-- The sum of exponentials of a row, each shifted by the row's maximum. -/
def expSum (x : ι → EReal) : EReal := ∑ n, Ideal.exp (x n - Finset.univ.sup x)

/-- The softmax of a row. -/
def soft (x : ι → EReal) (n : ι) : EReal := Ideal.div (Ideal.exp (x n - Finset.univ.sup x)) (expSum x)

/-- The log-sum-exp of a row, shifted by the row's maximum. -/
def lse (x : ι → EReal) : EReal := Ideal.log (expSum x) + Finset.univ.sup x

/-- The scores after one step: each lowered by the logarithm of what is left of its weight. -/
def sNext (s o : ι → EReal) (n : ι) : EReal := s n + Ideal.log (max (1 - o n) eps)

/-- The sampler's state after `k` steps: the scores, the last softmax, the sum of the softmaxes. -/
def samp (ky : ι → EReal) : ℕ → (ι → EReal) × (ι → EReal) × (ι → EReal)
  | 0 => (ky, fun _ => 0, fun _ => 0)
  | k + 1 =>
    let a := samp ky k
    let s := sNext a.1 a.2.1
    (s, soft s, fun n => a.2.2 n + soft s n)

/-- The exponential as a real: zero at `-∞`. -/
def ex : EReal → ℝ
  | ⊥ => 0
  | ⊤ => 0
  | (r : ℝ) => Real.exp r

@[simp] theorem ex_bot : ex ⊥ = 0 := rfl
@[simp] theorem ex_coe (r : ℝ) : ex (r : EReal) = Real.exp r := rfl

theorem ex_nonneg (x : EReal) : 0 ≤ ex x := by
  induction x using EReal.rec with
  | bot => exact le_refl _
  | top => exact le_refl _
  | coe r => exact (Real.exp_pos r).le

/-- The exponential of an entry, shifted by a real, is its plain exponential times a factor. -/
theorem exp_sub_real (x : EReal) (hx : x = ⊥ ∨ ∃ r : ℝ, x = r) (m : ℝ) :
    Ideal.exp (x - (m : EReal)) = ((ex x * Real.exp (-m) : ℝ) : EReal) := by
  rcases hx with rfl | ⟨r, rfl⟩
  · simp [EReal.bot_sub]
  · rw [← EReal.coe_sub, Ideal.exp_coe, ex_coe, ← Real.exp_add, sub_eq_add_neg]

/-- A row of reals and `-∞`s with at least one real has a real maximum. -/
theorem sup_real (x : ι → EReal) (hx : ∀ n, x n = ⊥ ∨ ∃ r : ℝ, x n = r) (h0 : ∃ n, ∃ r : ℝ, x n = r) :
    ∃ m : ℝ, Finset.univ.sup x = (m : EReal) := by
  obtain ⟨n0, r0, h0⟩ := h0
  obtain ⟨i, _, hi⟩ := Finset.exists_mem_eq_sup (Finset.univ : Finset ι) ⟨n0, Finset.mem_univ _⟩ x
  have hle : x n0 ≤ Finset.univ.sup x := Finset.le_sup (Finset.mem_univ n0)
  rcases hx i with hb | ⟨r, hr⟩
  · rw [hi, hb, h0] at hle
    exact absurd hle (by simp)
  · exact ⟨r, hi.trans hr⟩

theorem coe_sum' (f : ι → ℝ) : (∑ n, ((f n : ℝ) : EReal)) = ((∑ n, f n : ℝ) : EReal) := by
  have := map_sum (⟨⟨((↑) : ℝ → EReal), EReal.coe_zero⟩, EReal.coe_add⟩ : ℝ →+ EReal) f Finset.univ
  exact this.symm

theorem expSum_eq (x : ι → EReal) (hx : ∀ n, x n = ⊥ ∨ ∃ r : ℝ, x n = r) (m : ℝ)
    (hm : Finset.univ.sup x = (m : EReal)) :
    expSum x = (((∑ n, ex (x n)) * Real.exp (-m) : ℝ) : EReal) := by
  unfold expSum
  rw [hm, Finset.sum_mul, ← coe_sum']
  exact Finset.sum_congr rfl fun n _ => exp_sub_real (x n) (hx n) m

theorem exSum_pos (x : ι → EReal) (h0 : ∃ n, ∃ r : ℝ, x n = r) : 0 < ∑ n, ex (x n) := by
  obtain ⟨n0, r0, h0⟩ := h0
  refine Finset.sum_pos' (fun n _ => ex_nonneg _) ⟨n0, Finset.mem_univ _, ?_⟩
  rw [h0, ex_coe]
  exact Real.exp_pos _

/-- The shifted log-sum-exp is the logarithm of the plain sum of exponentials. -/
theorem lse_eq (x : ι → EReal) (hx : ∀ n, x n = ⊥ ∨ ∃ r : ℝ, x n = r) (h0 : ∃ n, ∃ r : ℝ, x n = r) :
    lse x = ((Real.log (∑ n, ex (x n)) : ℝ) : EReal) := by
  obtain ⟨m, hm⟩ := sup_real x hx h0
  have hp := exSum_pos x h0
  unfold lse
  rw [expSum_eq x hx m hm, hm, Ideal.log_coe, if_neg (not_le.mpr (mul_pos hp (Real.exp_pos _))),
    Real.log_mul hp.ne' (Real.exp_pos _).ne', Real.log_exp, ← EReal.coe_add]
  congr 1
  ring

/-- The sum of shifted exponentials of a row of reals is a positive real. -/
theorem expSum_pos [Nonempty ι] (x : ι → EReal) (hx : Real' x) :
    ∃ r : ℝ, expSum x = (r : EReal) ∧ 0 < r := by
  have hx' : ∀ n, x n = ⊥ ∨ ∃ r : ℝ, x n = r := fun n => .inr (hx.at n)
  have h0 : ∃ n, ∃ r : ℝ, x n = r := ⟨Classical.arbitrary ι, hx.at _⟩
  obtain ⟨m, hm⟩ := sup_real x hx' h0
  exact ⟨_, expSum_eq x hx' m hm, mul_pos (exSum_pos x h0) (Real.exp_pos _)⟩

/-- The softmax of a row of reals is a row of reals. -/
theorem soft_real [Nonempty ι] (x : ι → EReal) (hx : Real' x) : Real' (soft x) := by
  obtain ⟨S, hS, hpos⟩ := expSum_pos x hx
  have hx' : ∀ n, x n = ⊥ ∨ ∃ r : ℝ, x n = r := fun n => .inr (hx.at n)
  obtain ⟨m, hm⟩ := sup_real x hx' ⟨Classical.arbitrary ι, hx.at _⟩
  refine real'_of _ fun n => ?_
  unfold soft
  rw [hS, hm, exp_sub_real (x n) (hx' n) m, Ideal.div_coe hpos.ne', ← EReal.coe_mul]
  exact ⟨_, rfl⟩

/-- One step of the scores keeps them real. -/
theorem sNext_real (s o : ι → EReal) (hs : Real' s) (ho : Real' o) : Real' (sNext s o) := by
  obtain ⟨e, he, hpos⟩ := eps_pos
  refine real'_of _ fun n => ?_
  obtain ⟨a, ha⟩ := hs.at n
  obtain ⟨b, hb⟩ := ho.at n
  unfold sNext
  rw [ha, hb, he, ← EReal.coe_one, ← EReal.coe_sub]
  have : max ((1 - b : ℝ) : EReal) (e : EReal) = ((max (1 - b) e : ℝ) : EReal) :=
    (EReal.coe_strictMono.monotone.map_max).symm
  rw [this, Ideal.log_coe, if_neg (not_le.mpr (lt_of_lt_of_le hpos (le_max_right _ _))), ← EReal.coe_add]
  exact ⟨_, rfl⟩

/-- The sampler's scores and weights stay real. -/
theorem samp_real [Nonempty ι] (ky : ι → EReal) (hk : Real' ky) (k : ℕ) :
    Real' (samp ky k).1 ∧ Real' (samp ky k).2.1 := by
  induction k with
  | zero => exact ⟨hk, ⟨fun _ => 0, by simp [samp]⟩⟩
  | succ k ih => exact ⟨sNext_real _ _ ih.1 ih.2, soft_real _ (sNext_real _ _ ih.1 ih.2)⟩

end Row

/-- The number of candidates of a row. -/
abbrev L : ℕ := 16272

/-- `p` names the candidates in the order they are drawn: at each of the sixteen rounds the drawn candidate has not been
drawn before, and every other candidate either has been, or has a smaller key, or the same key and a later position. -/
structure Picks (ky : Fin L → EReal) (p : ℕ → Fin L) : Prop where
  fresh : ∀ i < 16, ∀ j < i, p j ≠ p i
  best : ∀ i < 16, ∀ n, n ≠ p i → (∃ j < i, p j = n) ∨ ky n < ky (p i) ∨ (ky n = ky (p i) ∧ p i < n)

/-- The candidates drawn before round `i`. -/
def Drawn (p : ℕ → Fin L) (i : ℕ) (n : Fin L) : Prop := ∃ j < i, p j = n

theorem drawn_succ (p : ℕ → Fin L) (i : ℕ) (n : Fin L) : Drawn p (i + 1) n ↔ Drawn p i n ∨ p i = n := by
  constructor
  · rintro ⟨j, hj, h⟩
    rcases Nat.lt_succ_iff_lt_or_eq.mp hj with h' | rfl
    · exact .inl ⟨j, h', h⟩
    · exact .inr h
  · rintro (⟨j, hj, h⟩ | h)
    · exact ⟨j, by omega, h⟩
    · exact ⟨i, by omega, h⟩

/-- Sixteen draws leave a candidate undrawn. -/
theorem exists_undrawn (p : ℕ → Fin L) (i : ℕ) (hi : i ≤ 16) : ∃ n, ¬ Drawn p i n := by
  classical
  by_contra hc
  push Not at hc
  have hsub : (Finset.univ : Finset (Fin L)) ⊆ (Finset.range i).image p := by
    intro n _
    obtain ⟨j, hj, h⟩ := hc n
    exact Finset.mem_image.mpr ⟨j, Finset.mem_range.mpr hj, h⟩
  have h1 := Finset.card_le_card hsub
  have h2 : ((Finset.range i).image p).card ≤ i := by
    simpa using (Finset.card_image_le (s := Finset.range i) (f := p))
  rw [Finset.card_univ, Fintype.card_fin] at h1
  have : L = 16272 := rfl
  omega

open Classical in
/-- The logits with the candidates drawn before round `i` excluded. -/
def undrawn (x : Fin L → EReal) (p : ℕ → Fin L) (i : ℕ) (n : Fin L) : EReal := if Drawn p i n then ⊥ else x n

/-- The sum of the exponentials of the logits not drawn before round `i`. -/
def mass (x : Fin L → EReal) (p : ℕ → Fin L) (i : ℕ) : ℝ := ∑ n, ex (undrawn x p i n)

theorem undrawn_or (x : Fin L → EReal) (hx : Real' x) (p : ℕ → Fin L) (i : ℕ) (n : Fin L) :
    undrawn x p i n = ⊥ ∨ ∃ r : ℝ, undrawn x p i n = r := by
  unfold undrawn
  split
  · exact .inl rfl
  · exact .inr (hx.at n)

theorem undrawn_some (x : Fin L → EReal) (hx : Real' x) (p : ℕ → Fin L) (i : ℕ) (hi : i ≤ 16) :
    ∃ n, ∃ r : ℝ, undrawn x p i n = r := by
  obtain ⟨n, hn⟩ := exists_undrawn p i hi
  refine ⟨n, ?_⟩
  unfold undrawn
  rw [if_neg hn]
  exact hx.at n

theorem mass_pos (x : Fin L → EReal) (hx : Real' x) (p : ℕ → Fin L) (i : ℕ) (hi : i ≤ 16) : 0 < mass x p i :=
  exSum_pos _ (undrawn_some x hx p i hi)

/-- The log-sum-exp over the candidates not yet drawn. -/
theorem lse_undrawn (x : Fin L → EReal) (hx : Real' x) (p : ℕ → Fin L) (i : ℕ) (hi : i ≤ 16) :
    lse (undrawn x p i) = ((Real.log (mass x p i) : ℝ) : EReal) :=
  lse_eq _ (undrawn_or x hx p i) (undrawn_some x hx p i hi)

/-- Drawing one candidate takes its exponential out of the sum. -/
theorem mass_succ (x : Fin L → EReal) (ky : Fin L → EReal) (p : ℕ → Fin L) (hp : Picks ky p) (i : ℕ) (hi : i < 16) :
    mass x p i = mass x p (i + 1) + ex (x (p i)) := by
  classical
  have hnd : ¬ Drawn p i (p i) := fun ⟨j, hj, h⟩ => hp.fresh i hi j hj h
  unfold mass
  rw [← Finset.sum_erase_add _ _ (Finset.mem_univ (p i)),
    ← Finset.sum_erase_add (a := p i) Finset.univ (fun n => ex (undrawn x p (i + 1) n)) (Finset.mem_univ (p i))]
  have h1 : undrawn x p i (p i) = x (p i) := if_neg hnd
  have h2 : undrawn x p (i + 1) (p i) = ⊥ := if_pos ⟨i, by omega, rfl⟩
  rw [h1, h2, ex_bot, add_zero]
  refine congrArg (· + ex (x (p i))) (Finset.sum_congr rfl fun n hn => ?_)
  have hne : p i ≠ n := fun h => (Finset.mem_erase.mp hn).1 h.symm
  unfold undrawn
  by_cases hd : Drawn p i n
  · rw [if_pos hd, if_pos ((drawn_succ p i n).mpr (.inl hd))]
  · rw [if_neg hd, if_neg (fun h => ((drawn_succ p i n).mp h).elim hd hne)]

/-- Adding one logit to a log-sum-exp, as two exponentials shifted by their maximum. -/
def lseAdd (a b : EReal) : EReal := max a b + Ideal.log (Ideal.exp (a - max a b) + Ideal.exp (b - max a b))

theorem lseAdd_coe (a b : ℝ) : lseAdd a b = ((Real.log (Real.exp a + Real.exp b) : ℝ) : EReal) := by
  unfold lseAdd
  have hm : max (a : EReal) (b : EReal) = ((max a b : ℝ) : EReal) := (EReal.coe_strictMono.monotone.map_max).symm
  have hs : 0 < Real.exp a + Real.exp b := add_pos (Real.exp_pos _) (Real.exp_pos _)
  rw [hm, exp_sub_real _ (.inr ⟨a, rfl⟩), exp_sub_real _ (.inr ⟨b, rfl⟩), ex_coe, ex_coe, ← EReal.coe_add, ← add_mul,
    Ideal.log_coe, if_neg (not_le.mpr (mul_pos hs (Real.exp_pos _))),
    Real.log_mul hs.ne' (Real.exp_pos _).ne', Real.log_exp, ← EReal.coe_add]
  congr 1
  ring

/-- The log-probability of the draws of the rounds from `i` (inclusive) to `k` (exclusive). -/
def logpFrom (f : Fin L → ℝ) (p : ℕ → Fin L) (i k : ℕ) : ℝ :=
  ∑ j ∈ Finset.Ico i k, (f (p j) - Real.log (mass (fun n => (f n : EReal)) p j))

/-- One step of the backward recurrence: from round `i + 1` to round `i`. -/
theorem back_step (f : Fin L → ℝ) (ky : Fin L → EReal) (p : ℕ → Fin L) (hp : Picks ky p) (i : ℕ) (hi : i < 16) :
    lseAdd ((Real.log (mass (fun n => (f n : EReal)) p (i + 1)) : ℝ) : EReal) (f (p i) : EReal)
      = ((Real.log (mass (fun n => (f n : EReal)) p i) : ℝ) : EReal) := by
  rw [lseAdd_coe, Real.exp_log (mass_pos _ ⟨f, rfl⟩ p (i + 1) (by omega)),
    mass_succ (fun n => (f n : EReal)) ky p hp i hi, ex_coe]

theorem logp_back (f : Fin L → ℝ) (p : ℕ → Fin L) (i : ℕ) (hi : i < 16) :
    ((logpFrom f p (i + 1) 16 : ℝ) : EReal) + (f (p i) : EReal)
        - ((Real.log (mass (fun n => (f n : EReal)) p i) : ℝ) : EReal)
      = ((logpFrom f p i 16 : ℝ) : EReal) := by
  rw [← EReal.coe_add, ← EReal.coe_sub]
  congr 1
  unfold logpFrom
  rw [Finset.sum_eq_sum_Ico_succ_bot (a := i) hi]
  ring

theorem logp_fwd (f : Fin L → ℝ) (p : ℕ → Fin L) (i : ℕ) :
    ((logpFrom f p 0 i : ℝ) : EReal) + (f (p i) : EReal)
        - ((Real.log (mass (fun n => (f n : EReal)) p i) : ℝ) : EReal)
      = ((logpFrom f p 0 (i + 1) : ℝ) : EReal) := by
  rw [← EReal.coe_add, ← EReal.coe_sub]
  congr 1
  unfold logpFrom
  rw [Finset.sum_Ico_succ_top (Nat.zero_le i)]
  ring

end Cert.Proof.Rows
-- ==== Proof.Math.Grid.lean ====
/-
Where a row's candidates lie on a grid of 136 rows of 128 places, and what that changes: nothing. Candidate `n < 16256`
is the off-diagonal pair of grid row `n / 127` and of place `n % 127`, moved one right from the diagonal on; candidate
`16256 + t` is place `t` of grid row 128. The order of the candidates is the grid's row-major order. Where the places that
hold no candidate hold `-∞`, the maximum over the grid is the row's, and sums of exponentials likewise.
-/
module

public import proofs.«01_k».proof.Proof.Math.Rows

@[expose] public section

set_option maxRecDepth 16384

noncomputable section

namespace Cert.Proof.Rows

open Idealize.ShloMosaic
open scoped BigOperators

/-- The grid row of a candidate. -/
def gr (n : Fin L) : Fin 136 := ⟨if n.val < 16256 then n.val / 127 else 128, by split <;> omega⟩

/-- The place of a candidate in its grid row. -/
def gc (n : Fin L) : Fin 128 :=
  ⟨if n.val < 16256 then (if n.val / 127 ≤ n.val % 127 then n.val % 127 + 1 else n.val % 127) else n.val - 16256, by
    have := n.isLt
    split
    · split <;> omega
    · simp only [L] at this; omega⟩

/-- The row-major position of a place of the grid. -/
abbrev flat (r : Fin 136) (c : Fin 128) : ℕ := r.val * 128 + c.val

theorem flat_lt (n n' : Fin L) (h : n < n') : flat (gr n) (gc n) < flat (gr n') (gc n') := by
  have h1 := n.isLt
  have h2 := n'.isLt
  have h3 : n.val < n'.val := h
  simp only [L] at h1 h2
  simp only [flat, gr, gc]
  split <;> split <;> (try split) <;> (try split) <;> omega

theorem flat_inj (r r' : Fin 136) (c c' : Fin 128) (h : flat r c = flat r' c') : r = r' ∧ c = c' := by
  have := c.isLt
  have := c'.isLt
  simp only [flat] at h
  constructor <;> apply Fin.ext <;> omega

theorem cell_inj (n n' : Fin L) (hr : gr n = gr n') (hc : gc n = gc n') : n = n' := by
  rcases lt_trichotomy n n' with h | h | h
  · have := flat_lt n n' h
    rw [hr, hc] at this
    exact absurd this (lt_irrefl _)
  · exact h
  · have := flat_lt n' n h
    rw [hr, hc] at this
    exact absurd this (lt_irrefl _)

/-- A place of the grid that holds no candidate. -/
def Pad (r : Fin 136) (c : Fin 128) : Prop := ∀ n, ¬ (gr n = r ∧ gc n = c)

/-- Values on the grid. -/
abbrev OnGrid : Type := Fin 136 → Fin 128 → EReal

/-- The grid's values at the candidates are the row's. -/
def Holds (X : OnGrid) (x : Fin L → EReal) : Prop := ∀ n, X (gr n) (gc n) = x n

/-- The grid's value at every place that holds no candidate. -/
def Pads (X : OnGrid) (v : EReal) : Prop := ∀ r c, Pad r c → X r c = v

/-- A place of the grid holds a candidate or is a pad. -/
theorem cell_cases (r : Fin 136) (c : Fin 128) : Pad r c ∨ ∃ n, gr n = r ∧ gc n = c := by
  by_cases h : ∃ n, gr n = r ∧ gc n = c
  · exact .inr h
  · exact .inl fun n hn => h ⟨n, hn⟩

def gsup (X : OnGrid) : EReal := Finset.univ.sup fun r => Finset.univ.sup fun c => X r c
def gsum (X : OnGrid) : EReal := ∑ r, ∑ c, X r c
def ginf (X : OnGrid) : EReal := Finset.univ.inf fun r => Finset.univ.inf fun c => X r c

theorem le_gsup (X : OnGrid) (r : Fin 136) (c : Fin 128) : X r c ≤ gsup X :=
  (Finset.le_sup (f := fun c => X r c) (Finset.mem_univ c)).trans
    (Finset.le_sup (f := fun r => Finset.univ.sup fun c => X r c) (Finset.mem_univ r))

theorem gsup_le (X : OnGrid) (v : EReal) (h : ∀ r c, X r c ≤ v) : gsup X ≤ v :=
  Finset.sup_le fun r _ => Finset.sup_le fun c _ => h r c

theorem ginf_le (X : OnGrid) (r : Fin 136) (c : Fin 128) : ginf X ≤ X r c :=
  (Finset.inf_le (f := fun r => Finset.univ.inf fun c => X r c) (Finset.mem_univ r)).trans
    (Finset.inf_le (f := fun c => X r c) (Finset.mem_univ c))

theorem le_ginf (X : OnGrid) (v : EReal) (h : ∀ r c, v ≤ X r c) : v ≤ ginf X :=
  Finset.le_inf fun r _ => Finset.le_inf fun c _ => h r c

/-- The maximum over the grid is the row's. -/
theorem gsup_eq (X : OnGrid) (x : Fin L → EReal) (h : Holds X x) (hp : Pads X ⊥) : gsup X = Finset.univ.sup x := by
  apply le_antisymm
  · refine gsup_le _ _ fun r c => ?_
    rcases cell_cases r c with hc | ⟨n, rfl, rfl⟩
    · rw [hp r c hc]
      exact bot_le
    · rw [h n]
      exact Finset.le_sup (Finset.mem_univ n)
  · refine Finset.sup_le fun n _ => ?_
    rw [← h n]
    exact le_gsup X _ _

/-- A sum over the grid that is zero off the candidates is the row's sum. -/
theorem gsum_eq (X : OnGrid) (x : Fin L → EReal) (h : Holds X x) (hp : Pads X 0) : gsum X = ∑ n, x n := by
  unfold gsum
  rw [← Fintype.sum_prod_type' (f := X)]
  symm
  refine Fintype.sum_of_injective (fun n => (gr n, gc n)) ?_ _ _ ?_ fun n => (h n).symm
  · intro n n' hn
    exact cell_inj n n' (congrArg Prod.fst hn) (congrArg Prod.snd hn)
  · rintro ⟨r, c⟩ hrc
    exact hp r c fun n hn => hrc ⟨n, by simp [hn.1, hn.2]⟩

def gexpSum (X : OnGrid) : EReal := gsum fun r c => Ideal.exp (X r c - gsup X)
def gsoft (X : OnGrid) : OnGrid := fun r c => Ideal.div (Ideal.exp (X r c - gsup X)) (gexpSum X)
def glse (X : OnGrid) : EReal := Ideal.log (gexpSum X) + gsup X
def gnext (S O : OnGrid) : OnGrid := fun r c => S r c + Ideal.log (max (1 - O r c) eps)

theorem gexpSum_eq (X : OnGrid) (x : Fin L → EReal) (h : Holds X x) (hp : Pads X ⊥) : gexpSum X = expSum x := by
  unfold gexpSum expSum
  rw [gsup_eq X x h hp]
  refine gsum_eq _ _ (fun n => by rw [h n]) fun r c hc => ?_
  show Ideal.exp (X r c - _) = 0
  rw [hp r c hc, EReal.bot_sub, Ideal.exp_bot]

theorem glse_eq (X : OnGrid) (x : Fin L → EReal) (h : Holds X x) (hp : Pads X ⊥) : glse X = lse x := by
  unfold glse lse
  rw [gexpSum_eq X x h hp, gsup_eq X x h hp]

theorem gsoft_holds (X : OnGrid) (x : Fin L → EReal) (h : Holds X x) (hp : Pads X ⊥) : Holds (gsoft X) (soft x) := by
  intro n
  unfold gsoft soft
  rw [gexpSum_eq X x h hp, gsup_eq X x h hp, h n]

theorem gnext_holds (S O : OnGrid) (s o : Fin L → EReal) (hs : Holds S s) (ho : Holds O o) :
    Holds (gnext S O) (sNext s o) := by
  intro n
  unfold gnext sNext
  rw [hs n, ho n]

theorem gnext_pads (S O : OnGrid) (hs : Pads S ⊥) : Pads (gnext S O) ⊥ := by
  intro r c hc
  unfold gnext
  rw [hs r c hc, EReal.bot_add]

/-- The grid's copy of the sampler's step. -/
def gstep (a : OnGrid × OnGrid × OnGrid) : OnGrid × OnGrid × OnGrid :=
  (gnext a.1 a.2.1, gsoft (gnext a.1 a.2.1), fun r c => a.2.2 r c + gsoft (gnext a.1 a.2.1) r c)

/-- The grid carries the sampler's state. -/
structure Carries (a : OnGrid × OnGrid × OnGrid) (b : (Fin L → EReal) × (Fin L → EReal) × (Fin L → EReal)) : Prop where
  s : Holds a.1 b.1
  pads : Pads a.1 ⊥
  o : Holds a.2.1 b.2.1
  k : Holds a.2.2 b.2.2

theorem Carries.step {a : OnGrid × OnGrid × OnGrid} {ky : Fin L → EReal} {k : ℕ} (h : Carries a (samp ky k)) :
    Carries (gstep a) (samp ky (k + 1)) := by
  have hn := gnext_holds _ _ _ _ h.s h.o
  have hp := gnext_pads a.1 a.2.1 h.pads
  have hso := gsoft_holds _ _ hn hp
  exact ⟨hn, hp, hso, fun n => congrArg₂ (· + ·) (h.k n) (hso n)⟩

/-! ### One round of drawing -/

open Classical in
/-- The mask's keys before round `i`: `-∞` at the candidates already drawn. -/
def gkeys (KY : OnGrid) (p : ℕ → Fin L) (i : ℕ) : OnGrid := fun r c =>
  if ∃ n, Drawn p i n ∧ gr n = r ∧ gc n = c then ⊥ else KY r c

/-- The least position among the greatest keys is that of the drawn candidate. -/
theorem least_eq (MK : OnGrid) (big : EReal) (r0 : Fin 136) (c0 : Fin 128) (hbig : ((flat r0 c0 : ℝ) : EReal) ≤ big)
    (h : ∀ r c, ¬ (r = r0 ∧ c = c0) → MK r c < MK r0 c0 ∨ (MK r c = MK r0 c0 ∧ flat r0 c0 < flat r c)) :
    ginf (fun r c => open Classical in if MK r c = gsup MK then ((flat r c : ℝ) : EReal) else big)
      = ((flat r0 c0 : ℝ) : EReal) := by
  classical
  have hsup : gsup MK = MK r0 c0 := by
    refine le_antisymm (gsup_le _ _ fun r c => ?_) (le_gsup _ _ _)
    by_cases hrc : r = r0 ∧ c = c0
    · rw [hrc.1, hrc.2]
    · rcases h r c hrc with h' | h'
      · exact h'.le
      · exact h'.1.le
  apply le_antisymm
  · refine (ginf_le _ r0 c0).trans (le_of_eq ?_)
    exact if_pos hsup.symm
  · refine le_ginf _ _ fun r c => ?_
    by_cases hrc : r = r0 ∧ c = c0
    · rw [hrc.1, hrc.2, if_pos hsup.symm]
    · rw [hsup]
      split
      · rename_i heq
        rcases h r c hrc with h' | h'
        · exact absurd heq h'.ne
        · exact EReal.coe_le_coe_iff.mpr (Nat.cast_le.mpr h'.2.le)
      · exact hbig

theorem gkeys_best (KY : OnGrid) (ky : Fin L → EReal) (hk : Holds KY ky) (hr : Real' ky) (hpad : Pads KY ⊥)
    (p : ℕ → Fin L) (hp : Picks ky p) (i : ℕ) (hi : i < 16) (r : Fin 136) (c : Fin 128)
    (hrc : ¬ (r = gr (p i) ∧ c = gc (p i))) :
    gkeys KY p i r c < gkeys KY p i (gr (p i)) (gc (p i))
      ∨ (gkeys KY p i r c = gkeys KY p i (gr (p i)) (gc (p i)) ∧ flat (gr (p i)) (gc (p i)) < flat r c) := by
  have hnd : ¬ ∃ n, Drawn p i n ∧ gr n = gr (p i) ∧ gc n = gc (p i) := by
    rintro ⟨n, ⟨j, hj, hjn⟩, h1, h2⟩
    exact hp.fresh i hi j hj (hjn.trans (cell_inj _ _ h1 h2))
  have h0 : gkeys KY p i (gr (p i)) (gc (p i)) = ky (p i) := by
    unfold gkeys
    rw [if_neg hnd, hk]
  obtain ⟨v, hv⟩ := hr.at (p i)
  have hbot : (⊥ : EReal) < ky (p i) := by rw [hv]; exact EReal.bot_lt_coe v
  rw [h0]
  by_cases hd : ∃ n, Drawn p i n ∧ gr n = r ∧ gc n = c
  · left
    unfold gkeys
    rw [if_pos hd]
    exact hbot
  · have h1 : gkeys KY p i r c = KY r c := if_neg hd
    rw [h1]
    rcases cell_cases r c with hc | ⟨n, rfl, rfl⟩
    · left
      rw [hpad r c hc]
      exact hbot
    · rw [hk n]
      have hne : n ≠ p i := fun h => hrc (by rw [h]; exact ⟨rfl, rfl⟩)
      rcases hp.best i hi n hne with ⟨j, hj, hjn⟩ | h' | h'
      · exact absurd ⟨n, ⟨j, hj, hjn⟩, rfl, rfl⟩ hd
      · exact .inl h'
      · exact .inr ⟨h'.1, flat_lt _ _ h'.2⟩

/-- Round `i` marks exactly the place of the candidate it draws. -/
theorem marked_iff (KY : OnGrid) (ky : Fin L → EReal) (hk : Holds KY ky) (hr : Real' ky) (hpad : Pads KY ⊥)
    (p : ℕ → Fin L) (hp : Picks ky p) (i : ℕ) (hi : i < 16) (big : EReal)
    (hbig : ∀ r c, ((flat r c : ℝ) : EReal) ≤ big) (r : Fin 136) (c : Fin 128) :
    ((flat r c : ℝ) : EReal)
        = ginf (fun r c => open Classical in
            if gkeys KY p i r c = gsup (gkeys KY p i) then ((flat r c : ℝ) : EReal) else big)
      ↔ (r = gr (p i) ∧ c = gc (p i)) := by
  rw [least_eq _ big (gr (p i)) (gc (p i)) (hbig _ _) (gkeys_best KY ky hk hr hpad p hp i hi)]
  constructor
  · intro h
    have h' : (flat r c : ℝ) = (flat (gr (p i)) (gc (p i)) : ℝ) := EReal.coe_eq_coe_iff.mp h
    exact flat_inj _ _ _ _ (Nat.cast_injective h')
  · rintro ⟨rfl, rfl⟩
    rfl

/-- Marking the drawn candidate's place gives the next round's keys. -/
theorem gkeys_succ (KY : OnGrid) (p : ℕ → Fin L) (i : ℕ) (r : Fin 136) (c : Fin 128) :
    (open Classical in if r = gr (p i) ∧ c = gc (p i) then ⊥ else gkeys KY p i r c) = gkeys KY p (i + 1) r c := by
  classical
  unfold gkeys
  by_cases h : r = gr (p i) ∧ c = gc (p i)
  · rw [if_pos h, if_pos ⟨p i, ⟨i, by omega, rfl⟩, h.1.symm, h.2.symm⟩]
  · rw [if_neg h]
    refine if_congr ?_ rfl rfl
    constructor
    · rintro ⟨n, hd, h1⟩
      exact ⟨n, (drawn_succ p i n).mpr (.inl hd), h1⟩
    · rintro ⟨n, hd, h1, h2⟩
      rcases (drawn_succ p i n).mp hd with hd | rfl
      · exact ⟨n, hd, h1, h2⟩
      · exact absurd ⟨h1.symm, h2.symm⟩ h

open Classical in
/-- How often a place has been marked before round `i`: once if its candidate has been drawn, else never. -/
def gmask (p : ℕ → Fin L) (i : ℕ) : OnGrid := fun r c => if ∃ n, Drawn p i n ∧ gr n = r ∧ gc n = c then 1 else 0

theorem gmask_zero (p : ℕ → Fin L) (r : Fin 136) (c : Fin 128) : gmask p 0 r c = 0 := by
  unfold gmask
  rw [if_neg]
  rintro ⟨n, ⟨j, hj, _⟩, _⟩
  omega

theorem gkeys_zero (KY : OnGrid) (p : ℕ → Fin L) (r : Fin 136) (c : Fin 128) : gkeys KY p 0 r c = KY r c := by
  unfold gkeys
  rw [if_neg]
  rintro ⟨n, ⟨j, hj, _⟩, _⟩
  omega

theorem gmask_succ (ky : Fin L → EReal) (p : ℕ → Fin L) (hp : Picks ky p) (i : ℕ) (hi : i < 16) (r : Fin 136)
    (c : Fin 128) :
    gmask p i r c + (open Classical in if r = gr (p i) ∧ c = gc (p i) then (1 : EReal) else 0)
      = gmask p (i + 1) r c := by
  classical
  unfold gmask
  by_cases h : r = gr (p i) ∧ c = gc (p i)
  · rw [if_pos h, if_pos (⟨p i, ⟨i, by omega, rfl⟩, h.1.symm, h.2.symm⟩ :
      ∃ n, Drawn p (i + 1) n ∧ gr n = r ∧ gc n = c), if_neg, zero_add]
    rintro ⟨n, ⟨j, hj, hjn⟩, h1, h2⟩
    exact hp.fresh i hi j hj (hjn.trans (cell_inj _ _ (h1.trans h.1) (h2.trans h.2)))
  · rw [if_neg h, add_zero]
    refine if_congr ?_ rfl rfl
    constructor
    · rintro ⟨n, hd, h1⟩
      exact ⟨n, (drawn_succ p i n).mpr (.inl hd), h1⟩
    · rintro ⟨n, hd, h1, h2⟩
      rcases (drawn_succ p i n).mp hd with hd | rfl
      · exact ⟨n, hd, h1, h2⟩
      · exact absurd ⟨h1.symm, h2.symm⟩ h

/-- The marked place's logit, read by a sum over the grid. -/
theorem marked_sum (LG : OnGrid) (lg : Fin L → EReal) (hl : Holds LG lg) (n0 : Fin L) :
    gsum (fun r c => open Classical in if r = gr n0 ∧ c = gc n0 then LG r c else 0) = lg n0 := by
  classical
  rw [gsum_eq _ (fun n => if n = n0 then lg n else 0)]
  · simp
  · intro n
    show (if gr n = gr n0 ∧ gc n = gc n0 then LG (gr n) (gc n) else 0) = if n = n0 then lg n else 0
    by_cases h : n = n0
    · rw [if_pos h, if_pos ⟨by rw [h], by rw [h]⟩, hl n]
    · rw [if_neg h, if_neg fun h' => h (cell_inj _ _ h'.1 h'.2)]
  · intro r c hc
    exact if_neg fun h => hc n0 ⟨h.1.symm, h.2.symm⟩

/-- The logits plus `-∞` times the marks, at the candidates: the drawn ones excluded. -/
theorem masked_holds (LG : OnGrid) (lg : Fin L → EReal) (hl : Holds LG lg) (p : ℕ → Fin L) (i : ℕ) :
    Holds (fun r c => LG r c + gmask p i r c * ⊥) (undrawn lg p i) := by
  intro n
  show LG (gr n) (gc n) + gmask p i (gr n) (gc n) * ⊥ = _
  unfold gmask undrawn
  rw [hl n]
  by_cases h : Drawn p i n
  · rw [if_pos h, if_pos ⟨n, h, rfl, rfl⟩, one_mul, EReal.add_bot]
  · rw [if_neg h, if_neg, zero_mul, add_zero]
    rintro ⟨n', h', h1, h2⟩
    exact h ((cell_inj _ _ h1 h2) ▸ h')

theorem masked_pads (LG : OnGrid) (hp : Pads LG ⊥) (p : ℕ → Fin L) (i : ℕ) :
    Pads (fun r c => LG r c + gmask p i r c * ⊥) ⊥ := by
  intro r c hc
  show LG r c + _ = ⊥
  rw [hp r c hc, EReal.bot_add]

end Cert.Proof.Rows
-- ==== Proof.Value.Spec.lean ====
/-
The logits and the keys of one batch row, as functions of the argument arrays' entries: what the kernel and the reference
both compute before the sampler's loop.
-/
module

public import proofs.«01_k».proof.Proof.Math.Grid
public import Idealize.ShloMosaic.Lib.Pointwise

@[expose] public section

set_option maxRecDepth 16384

noncomputable section

namespace Cert.Proof.Spec

open Idealize.ShloMosaic Cert.Proof.Rows

/-- What a logit is multiplied by where its candidate is masked out. -/
abbrev away : EReal := Ideal.ofBits .f32 0xC9742400#32

/-- The score of a pair of places of batch row `b`. -/
def score (pos mage : Fin 64 → Fin 128 → Fin 64 → EReal) (W : Fin 64 → Fin 64 → EReal) (b : Fin 64) (r c : Fin 128) :
    EReal :=
  ∑ y : Fin 64, (∑ z : Fin 64, pos b r z * W z y) * mage b c y

/-- The logits of batch row `b`, one per candidate. -/
def lg (pos mage : Fin 64 → Fin 128 → Fin 64 → EReal) (W : Fin 64 → Fin 64 → EReal) (mask : Fin 64 → Fin L → EReal)
    (dl : Fin 16 → EReal) (b : Fin 64) (n : Fin L) : EReal :=
  mask b n * away
    + (if h : n.val < 16256 then score pos mage W b ⟨n.val / 127, by omega⟩ (gc n)
        else dl ⟨n.val - 16256, by have := n.isLt; simp only [L] at this; omega⟩)
      * (1 - mask b n)

/-- The keys of batch row `b`: the logits plus the noise. -/
def ky (pos mage : Fin 64 → Fin 128 → Fin 64 → EReal) (W : Fin 64 → Fin 64 → EReal) (mask : Fin 64 → Fin L → EReal)
    (dl : Fin 16 → EReal) (gum : Fin 64 → Fin L → EReal) (b : Fin 64) (n : Fin L) : EReal :=
  lg pos mage W mask dl b n + gum b n

end Cert.Proof.Spec
-- ==== Proof.Finite.lean ====
/-
The precondition read: every entry of every argument is a real number; so are then the logits and the keys.
-/
module

public import proofs.«01_k».proof.Pre_finite
public import proofs.«01_k».proof.Proof.Value.Spec
public import Idealize.ShloMosaic.Lib.ReduceAll

@[expose] public section

set_option maxRecDepth 16384

noncomputable section

namespace Cert.Proof.Finite

open Idealize.ShloMosaic Cert.Proof.Rows Cert.Pre_finite

/-- The shape relations the precondition's operations take. -/
instance facts : Cert.Pre_finite.Facts where
  bcast_S_S64x128x64 := by decide
  reducesTo_S64x128x64_S_d0_1_2 := by decide
  h_S_ := by decide
  bcast_S_S64x16272 := by decide
  reducesTo_S64x16272_S_d0_1 := by decide
  bcast_S_S64x64 := by decide
  reducesTo_S64x64_S_d0_1 := by decide
  bcast_S_S16 := by decide
  reducesTo_S16_S_d0 := by decide

instance : Subsingleton S_.Idx := ⟨fun a b => funext fun i => i.elim0⟩

/-- A number that is neither infinity. -/
abbrev IsReal (x : EReal) : Prop := ∃ r : ℝ, x = r

theorem IsReal.add {x y : EReal} : IsReal x → IsReal y → IsReal (x + y) := by
  rintro ⟨a, rfl⟩ ⟨b, rfl⟩
  exact ⟨a + b, (EReal.coe_add a b).symm⟩

theorem IsReal.mul {x y : EReal} : IsReal x → IsReal y → IsReal (x * y) := by
  rintro ⟨a, rfl⟩ ⟨b, rfl⟩
  exact ⟨a * b, (EReal.coe_mul a b).symm⟩

theorem IsReal.one_sub {x : EReal} : IsReal x → IsReal (1 - x) := by
  rintro ⟨a, rfl⟩
  exact ⟨1 - a, (EReal.coe_sub 1 a).symm⟩

theorem IsReal.sum {ι : Type} [Fintype ι] {f : ι → EReal} (h : ∀ i, IsReal (f i)) : IsReal (∑ i, f i) := by
  choose g hg using h
  exact ⟨∑ i, g i, by rw [← coe_sum']; exact Finset.sum_congr rfl fun i _ => hg i⟩

theorem top_word : Ideal.ofBits .f32 0x7F800000#32 = ⊤ := by simp [Ideal.ofBits, Ideal.ieee]

theorem away_real : IsReal Spec.away := by
  refine ⟨-1000000, ?_⟩
  show Ideal.ofBits .f32 0xC9742400#32 = ((-1000000 : ℝ) : EReal)
  simp [Ideal.ofBits, Ideal.ieee]
  norm_num
  rw [← EReal.coe_mul]
  norm_num

/-- An entry smaller in absolute value than infinity is a real number. -/
theorem real_of_abs (x : EReal) (h : Ideal.cmp .olt (max x (-x)) (Ideal.ofBits .f32 0x7F800000#32) = 1#1) : IsReal x := by
  rw [top_word] at h
  induction x with
  | bot => simp [Ideal.cmp] at h
  | coe r => exact ⟨r, rfl⟩
  | top => simp [Ideal.cmp] at h

section Reading
variable (a0 a1 : FVec Ideal S64x128x64 .f32) (a2 a3 : FVec Ideal S64x16272 .f32) (a4 : FVec Ideal S64x64 .f32)
  (a5 : FVec Ideal S16 .f32)

theorem and_one {x y : IVec S_ 1} {j : S_.Idx} (h : andi x y j = 1#1) : x j = 1#1 ∧ y j = 1#1 := by
  have h' : x j &&& y j = 1#1 := h
  generalize x j = u at h'
  generalize y j = v at h'
  revert u v
  decide

/-- The precondition says that every entry is a real number. -/
theorem reals (h : fn (F := Ideal) a0 a1 a2 a3 a4 a5 = fun _ => 1#1) :
    (∀ i, IsReal (a0 i)) ∧ (∀ i, IsReal (a1 i)) ∧ (∀ i, IsReal (a2 i)) ∧ (∀ i, IsReal (a3 i)) ∧ (∀ i, IsReal (a4 i))
      ∧ ∀ i, IsReal (a5 i) := by
  have hj := congrFun h (Shape.Idx.first Facts.h_S_)
  unfold fn fn_part1 at hj
  dsimp only at hj
  obtain ⟨hj, h5⟩ := and_one hj
  obtain ⟨hj, h4⟩ := and_one hj
  obtain ⟨hj, h3⟩ := and_one hj
  obtain ⟨hj, h2⟩ := and_one hj
  obtain ⟨h0, h1⟩ := and_one hj
  exact ⟨fun i => real_of_abs _ (Host.reduce_andi_all _ _ _ _ _ h0 i), fun i => real_of_abs _ (Host.reduce_andi_all _ _ _ _ _ h1 i),
    fun i => real_of_abs _ (Host.reduce_andi_all _ _ _ _ _ h2 i), fun i => real_of_abs _ (Host.reduce_andi_all _ _ _ _ _ h3 i),
    fun i => real_of_abs _ (Host.reduce_andi_all _ _ _ _ _ h4 i), fun i => real_of_abs _ (Host.reduce_andi_all _ _ _ _ _ h5 i)⟩

end Reading

section Rows
variable (pos mage : Fin 64 → Fin 128 → Fin 64 → EReal) (W : Fin 64 → Fin 64 → EReal) (mask gum : Fin 64 → Fin L → EReal)
  (dl : Fin 16 → EReal) (hp : ∀ b r h, IsReal (pos b r h)) (hm : ∀ b r h, IsReal (mage b r h)) (hW : ∀ k h, IsReal (W k h))
  (hk : ∀ b n, IsReal (mask b n)) (hg : ∀ b n, IsReal (gum b n)) (hd : ∀ t, IsReal (dl t))
include hp hm hW hk hd

theorem lg_real (b : Fin 64) (n : Fin L) : IsReal (Spec.lg pos mage W mask dl b n) := by
  unfold Spec.lg
  refine IsReal.add (IsReal.mul (hk b n) away_real) (IsReal.mul ?_ (IsReal.one_sub (hk b n)))
  split
  · unfold Spec.score
    exact IsReal.sum fun y => IsReal.mul (IsReal.sum fun z => IsReal.mul (hp _ _ _) (hW _ _)) (hm _ _ _)
  · exact hd _

include hg in
theorem ky_real (b : Fin 64) (n : Fin L) : IsReal (Spec.ky pos mage W mask dl gum b n) := by
  unfold Spec.ky
  exact IsReal.add (lg_real pos mage W mask dl hp hm hW hk hd b n) (hg b n)

end Rows

end Cert.Proof.Finite

end
-- ==== Proof.Value.KernelStep.lean ====
/-
The kernel's payloads at the ideal values, one batch row of a block at a time. A block holds sixteen batch rows; row `i`
of a value on the block's grid is a plain function of the grid's row and place. Here each operation of the kernel's loop
body, and each step of its backward chain, is read as the corresponding function of a row.
-/
module

public import proofs.«01_k».proof.Proof.Run.KernelIdeal
public import proofs.«01_k».proof.Proof.Math.Grid
public import Idealize.ShloMosaic.Lib.Pointwise

@[expose] public section

set_option maxRecDepth 16384

noncomputable section

namespace Cert.Proof.KernelValue

open Idealize.ShloMosaic Cert.KernelIdeal Cert.KernelIdeal.Gen Cert.Proof.KernelIdeal
open Cert.Proof.Rows

/-- Row `i` of a block's value, on the grid. -/
def grid (x : FVec Ideal S16x136x128 .f32) (i : Fin 16) : OnGrid := fun r c => x (ix3 i r c)

theorem negInf : Ideal.ofBits .f32 0xFF800000#32 = ⊥ := by simp [Ideal.ofBits, Ideal.ieee]
theorem posInf : Ideal.ofBits .f32 0x7F800000#32 = ⊤ := by simp [Ideal.ofBits, Ideal.ieee]

theorem neg_bot : (Named.named κ "neg" 0xF149F2CA#32 : Ideal .f32) = ⊥ := rfl
theorem off_bot : (Named.named κ "off" 0xCE6E6B28#32 : Ideal .f32) = ⊥ := rfl

theorem grid_next (s o : FVec Ideal S16x136x128 .f32) (i : Fin 16) :
    grid (k0_pay2 s o) i = gnext (grid s i) (grid o i) := by
  funext r c
  unfold grid gnext k0_pay2
  pointwise

theorem grid_soft (s o : FVec Ideal S16x136x128 .f32) (i : Fin 16) :
    grid (k0_pay3 s o) i = gsoft (grid (k0_pay2 s o) i) := by
  funext r c
  unfold grid gsoft k0_pay3
  generalize k0_pay2 s o = x
  pointwise
  simp only [negInf]
  rfl

theorem grid_sum (s o k : FVec Ideal S16x136x128 .f32) (i : Fin 16) :
    grid (k0_pay4 s o k) i = fun r c => grid k i r c + grid (k0_pay3 s o) i r c := by
  funext r c
  unfold grid k0_pay4
  pointwise

/-- The value that stands for a place that is not a maximum. -/
abbrev big : EReal := Ideal.ofBits .f32 0x7F7FC99E#32

theorem flat_word (i : Fin 16) (r : Fin 136) (c : Fin 128) :
    (k0_pay15 (F := Ideal) (ix3 i r c)) = ((flat r c : ℝ) : EReal) := by
  have hr := r.isLt
  have hc := c.isLt
  unfold k0_pay15
  pointwise
  have hw : (IntOp.addi (IntOp.muli (BitVec.ofNat 32 r.val) 128#32) (BitVec.ofNat 32 c.val)).toInt
      = ((r.val * 128 + c.val : ℕ) : ℤ) := by
    have : IntOp.addi (IntOp.muli (BitVec.ofNat 32 r.val) 128#32) (BitVec.ofNat 32 c.val)
        = BitVec.ofNat 32 (r.val * 128 + c.val) := by
      show BitVec.ofNat 32 r.val * BitVec.ofNat 32 128 + BitVec.ofNat 32 c.val = _
      rw [← BitVec.ofNat_mul, ← BitVec.ofNat_add]
    rw [this, BitVec.toInt_ofNat']
    rw [Int.bmod_eq_of_le (by omega) (by omega)]
  show (((IntOp.addi (IntOp.muli (BitVec.ofNat 32 r.val) 128#32) (BitVec.ofNat 32 c.val)).toInt : ℝ) : EReal) = _
  rw [hw]
  simp [flat]

theorem flat_le_big (r : Fin 136) (c : Fin 128) : ((flat r c : ℝ) : EReal) ≤ big := by
  have hb : ∃ v : ℝ, big = (v : EReal) ∧ 20000 ≤ v := by
    refine ⟨_, by simp [big, Ideal.ofBits, Ideal.ieee]; rfl, by norm_num⟩
  obtain ⟨v, hv, h⟩ := hb
  rw [hv]
  refine EReal.coe_le_coe_iff.mpr (le_trans ?_ h)
  have hr := r.isLt
  have hc := c.isLt
  have : flat r c ≤ 20000 := by simp only [flat]; omega
  exact_mod_cast this

open Classical in
/-- The round's mark at a place: the bit of "the least position among the greatest keys is here". -/
theorem mark_apply (mk : FVec Ideal S16x136x128 .f32) (i : Fin 16) (r : Fin 136) (c : Fin 128) :
    k0_pay5 k0_pay15 mk (ix3 i r c)
      = BitVec.ofBool (decide (((flat r c : ℝ) : EReal)
          = ginf (fun r c => if grid mk i r c = gsup (grid mk i) then ((flat r c : ℝ) : EReal) else big))) := by
  unfold k0_pay5
  pointwise
  simp only [flat_word, negInf, posInf]
  unfold ginf gsup grid
  have h : ∀ a b : Prop, a = b → ∀ [Decidable a] [Decidable b], BitVec.ofBool (decide a) = BitVec.ofBool (decide b) := by
    rintro a b rfl _ _
    congr
  apply h
  congr 1

theorem mask_bot (mk : FVec Ideal S16x136x128 .f32) (sl : IVec S16x136x128 1) (i : Fin 16) (r : Fin 136) (c : Fin 128) :
    k0_pay18 mk sl (ix3 i r c) = Scalar.select (sl (ix3 i r c)) ⊥ (mk (ix3 i r c)) := by
  unfold k0_pay18
  pointwise
  rfl

theorem count_apply (sm : FVec Ideal S16x136x128 .f32) (sl : IVec S16x136x128 1) (i : Fin 16) (r : Fin 136)
    (c : Fin 128) (b : Bool) (hb : sl (ix3 i r c) = BitVec.ofBool b) :
    k0_pay19 sm sl (ix3 i r c) = sm (ix3 i r c) + (if b then 1 else 0) := by
  unfold k0_pay19
  pointwise
  rw [hb]
  congr 1
  cases b
  · show (((BitVec.setWidth 32 0#1).toInt : ℝ) : EReal) = _
    simp
  · show (((BitVec.setWidth 32 1#1).toInt : ℝ) : EReal) = _
    simp

theorem lane_apply (i : Fin 16) (z : Fin 1) (t : Fin 128) : lane (ix3 i z t) = BitVec.ofNat 32 t.val := by
  unfold lane
  pointwise

theorem lane_eq (i : Fin 16) (z : Fin 1) (t : Fin 128) (k : ℕ) (hk : k < 128) (w : BitVec 32)
    (hw : w = BitVec.ofNat 32 k) :
    IntOp.cmpi .eq (lane (ix3 i z t)) w = BitVec.ofBool (decide (t.val = k)) := by
  have ht := t.isLt
  rw [lane_apply, hw]
  show BitVec.ofBool (BitVec.ofNat 32 t.val == BitVec.ofNat 32 k) = _
  congr 1
  rw [Bool.eq_iff_iff, beq_iff_eq, decide_eq_true_iff]
  constructor
  · intro h
    have := congrArg BitVec.toNat h
    simp only [BitVec.toNat_ofNat] at this
    omega
  · intro h
    rw [h]

theorem select_ofBool {α : Type} (b : Bool) (x y : α) : Scalar.select (BitVec.ofBool b) x y = if b then x else y := by
  cases b <;> rfl

/-- The store of drawn logits after a round. -/
theorem store_apply (lg fl mk : FVec Ideal S16x136x128 .f32) (st : FVec Ideal S16x1x128 .f32)
    (k : Fin k0_t1_loop.trips) (hk : k.val < 16) (i : Fin 16) (t : Fin 128) :
    k0_pay6 lane lg fl 0#32 1#32 k mk st (ix3 i 0 t)
      = if t.val = k.val then gsum (fun r c => Scalar.select (k0_pay5 fl mk (ix3 i r c)) (grid lg i r c) 0)
        else st (ix3 i 0 t) := by
  unfold k0_pay6
  pointwise
  rw [lane_eq i 0 t k.val (by omega) _ (by
    show (0#32 : BitVec 32) + BitVec.ofNat 32 k.val * 1#32 = _
    simp), select_ofBool]
  simp only [decide_eq_true_eq]
  rfl

/-- The drawn logit of round `k`, read back from its lane. -/
theorem sel_apply (st : FVec Ideal S16x1x128 .f32) (i : Fin 16) (k : ℕ) (hk : k < 128) (w : BitVec 32)
    (hw : w = BitVec.ofNat 32 k) :
    (∑ t, Scalar.select (IntOp.cmpi CmpIPredicate.eq (lane (ix3 i 0 t)) w) (st (ix3 i 0 t)) 0)
      = st (ix3 i 0 ⟨k, hk⟩) := by
  have : ∀ t : Fin 128, Scalar.select (IntOp.cmpi CmpIPredicate.eq (lane (ix3 i 0 t)) w) (st (ix3 i 0 t)) 0
      = if t = ⟨k, hk⟩ then st (ix3 i 0 t) else 0 := by
    intro t
    rw [lane_eq i 0 t k hk w hw, select_ofBool]
    simp only [decide_eq_true_eq]
    refine if_congr ⟨fun h => Fin.ext h, fun h => congrArg Fin.val h⟩ rfl rfl
  simp only [this]
  simp

/-! ### The backward chain -/

/-- The logit drawn in the round whose lane is the word `w`. -/
def selV (st : FVec Ideal S16x1x128 .f32) (w : BitVec 32) : FVec Ideal S16x1x1 .f32 :=
  shapeCast S16x1x1 (multiReduction .add [2] S16x1
    (select (cmpi .eq lane (broadcast S16x1x128 w)) st (broadcast S16x1x128 (Scalar.ofBits .f32 0x00000000#32)))
    0x00000000#32 reduces_S16x1x128_S16x1 (.inl rfl) rfl) shapeCasts_S16x1_S16x1x1

/-- A log-sum-exp with one more logit in it. -/
def addV (a b : FVec Ideal S16x1x1 .f32) : FVec Ideal S16x1x1 .f32 :=
  addf (maximumf a b) (log (addf (exp (subf a (maximumf a b))) (exp (subf b (maximumf a b)))))

/-- The logits with the drawn ones excluded. -/
def leftV (lg sm : FVec Ideal S16x136x128 .f32) : FVec Ideal S16x136x128 .f32 :=
  addf lg (mulf sm (broadcast S16x136x128 (Named.named κ "off" 0xCE6E6B28#32)))

/-- The log-sum-exp over a block's grid. -/
def lseV (x : FVec Ideal S16x136x128 .f32) : FVec Ideal S16x1x1 .f32 :=
  let m : FVec Ideal S16x1x1 .f32 := shapeCast S16x1x1 (multiReduction .maximumf [1] S16x1
    (shapeCast S16x136x1 (multiReduction .maximumf [2] S16x136 x 0xFF800000#32 reduces_S16x136x128_S16x136 (.inl rfl) rfl)
      shapeCasts_S16x136_S16x136x1) 0xFF800000#32 reduces_S16x136x1_S16x1 (.inl rfl) rfl) shapeCasts_S16x1_S16x1x1
  addf (log (shapeCast S16x1x1 (multiReduction .add [1] S16x1
    (shapeCast S16x136x1 (multiReduction .add [2] S16x136
      (exp (subf x (broadcastTo S16x136x128 m broadcasts_S16x1x1_S16x136x128)))
      0x00000000#32 reduces_S16x136x128_S16x136 (.inl rfl) rfl)
      shapeCasts_S16x136_S16x136x1) 0x00000000#32 reduces_S16x136x1_S16x1 (.inl rfl) rfl) shapeCasts_S16x1_S16x1x1)) m

theorem selV_apply (st : FVec Ideal S16x1x128 .f32) (i : Fin 16) (k : ℕ) (hk : k < 128) :
    selV st (BitVec.ofNat 32 k) (ix3 i 0 0) = st (ix3 i 0 ⟨k, hk⟩) := by
  rw [← sel_apply st i k hk _ rfl]
  unfold selV
  pointwise

theorem lseV_apply (x : FVec Ideal S16x136x128 .f32) (i : Fin 16) : lseV x (ix3 i 0 0) = glse (grid x i) := by
  unfold lseV glse gexpSum
  pointwise
  simp only [negInf]
  rfl

theorem leftV_grid (lg sm : FVec Ideal S16x136x128 .f32) (i : Fin 16) :
    grid (leftV lg sm) i = fun r c => grid lg i r c + grid sm i r c * ⊥ := by
  funext r c
  unfold grid leftV
  pointwise
  rfl

theorem addV_apply (a b : FVec Ideal S16x1x1 .f32) (j : S16x1x1.Idx) : addV a b j = lseAdd (a j) (b j) := rfl

section Chain

variable (f : Fin L → ℝ) (ky : Fin L → EReal) (p : ℕ → Fin L) (hp : Picks ky p)

/-- The logarithm of what is left before round `k`. -/
abbrev left (k : ℕ) : EReal := ((Real.log (mass (fun n => (f n : EReal)) p k) : ℝ) : EReal)

include hp in
theorem addV_row (k : ℕ) (hk : k < 16) (a b : FVec Ideal S16x1x1 .f32) (j : S16x1x1.Idx)
    (ha : a j = left f p (k + 1)) (hb : b j = (f (p k) : EReal)) : addV a b j = left f p k := by
  rw [addV_apply, ha, hb]
  exact back_step f ky p hp k hk

theorem logpV_row (k : ℕ) (hk : k < 16) (q s l : FVec Ideal S16x1x1 .f32) (j : S16x1x1.Idx)
    (hq : q j = ((logpFrom f p (k + 1) 16 : ℝ) : EReal)) (hs : s j = (f (p k) : EReal)) (hl : l j = left f p k) :
    subf (addf q s) l j = ((logpFrom f p k 16 : ℝ) : EReal) := by
  show (q j + s j) - l j = _
  rw [hq, hs, hl]
  exact logp_back f p k hk

section Stages

variable (st : FVec Ideal S16x1x128 .f32) (j : S16x1x1.Idx)
  (hS : ∀ (k : ℕ) (_ : k < 16), selV st (BitVec.ofNat 32 k) j = (f (p k) : EReal))

include hS

include hp in
/-- Rounds 14 to 11. -/
theorem chain_a (v111 v117 v118 v119 : FVec Ideal S16x1x1 .f32)
    (q15 : v111 j = ((logpFrom f p 15 16 : ℝ) : EReal)) (s14 : v117 j = (f (p 14) : EReal))
    (h14 : k0_pay26 v117 v118 v119 j = left f p 14) :
    k0_pay31 lane st v111 v117 v118 v119 j = ((logpFrom f p 12 16 : ℝ) : EReal)
      ∧ k0_pay36 (k0_pay33 lane st v117 v118 v119) (k0_pay34 lane st v117 v118 v119) (k0_pay35 lane st v117 v118 v119) j = left f p 11 := by
  have s13 : k0_pay27 lane st j = (f (p 13) : EReal) := hS 13 (by omega)
  have h13 : k0_pay28 lane st v117 v118 v119 j = left f p 13 := addV_row f ky p hp 13 (by omega) (k0_pay26 v117 v118 v119) (k0_pay27 lane st) j h14 s13
  have s12 : k0_pay29 lane st j = (f (p 12) : EReal) := hS 12 (by omega)
  have h12 : k0_pay30 lane st v117 v118 v119 j = left f p 12 := addV_row f ky p hp 12 (by omega) (k0_pay28 lane st v117 v118 v119) (k0_pay29 lane st) j h13 s12
  have s11 : k0_pay32 lane st j = (f (p 11) : EReal) := hS 11 (by omega)
  have q14 := logpV_row f p 14 (by omega) v111 v117 (k0_pay26 v117 v118 v119) j q15 s14 h14
  have q13 := logpV_row f p 13 (by omega) _ (k0_pay27 lane st) (k0_pay28 lane st v117 v118 v119) j q14 s13 h13
  have q12 := logpV_row f p 12 (by omega) _ (k0_pay29 lane st) (k0_pay30 lane st v117 v118 v119) j q13 s12 h12
  exact ⟨q12, addV_row f ky p hp 11 (by omega) (k0_pay30 lane st v117 v118 v119) (k0_pay32 lane st) j h12 s11⟩

include hp in
/-- Rounds 11 to 8. -/
theorem chain_b (v159 v165 v166 v168 v170 : FVec Ideal S16x1x1 .f32)
    (q12 : v159 j = ((logpFrom f p 12 16 : ℝ) : EReal)) (s11 : v165 j = (f (p 11) : EReal))
    (h11 : k0_pay36 v166 v168 v170 j = left f p 11) :
    k0_pay41 lane st v159 v165 v166 v168 v170 j = ((logpFrom f p 9 16 : ℝ) : EReal) ∧ k0_pay43 lane st v166 v168 v170 j = left f p 8 := by
  have s10 : k0_pay37 lane st j = (f (p 10) : EReal) := hS 10 (by omega)
  have h10 : k0_pay38 lane st v166 v168 v170 j = left f p 10 := addV_row f ky p hp 10 (by omega) (k0_pay36 v166 v168 v170) (k0_pay37 lane st) j h11 s10
  have s9 : k0_pay39 lane st j = (f (p 9) : EReal) := hS 9 (by omega)
  have h9 : k0_pay40 lane st v166 v168 v170 j = left f p 9 := addV_row f ky p hp 9 (by omega) (k0_pay38 lane st v166 v168 v170) (k0_pay39 lane st) j h10 s9
  have s8 : k0_pay42 lane st j = (f (p 8) : EReal) := hS 8 (by omega)
  have q11 := logpV_row f p 11 (by omega) v159 v165 (k0_pay36 v166 v168 v170) j q12 s11 h11
  have q10 := logpV_row f p 10 (by omega) _ (k0_pay37 lane st) (k0_pay38 lane st v166 v168 v170) j q11 s10 h10
  have q9 := logpV_row f p 9 (by omega) _ (k0_pay39 lane st) (k0_pay40 lane st v166 v168 v170) j q10 s9 h9
  exact ⟨q9, addV_row f ky p hp 8 (by omega) (k0_pay40 lane st v166 v168 v170) (k0_pay42 lane st) j h9 s8⟩

include hp in
/-- Rounds 8 to 5. -/
theorem chain_c (v207 v213 v221 : FVec Ideal S16x1x1 .f32)
    (q9 : v207 j = ((logpFrom f p 9 16 : ℝ) : EReal)) (s8 : v213 j = (f (p 8) : EReal))
    (h8 : v221 j = left f p 8) :
    k0_pay50 lane st v207 v213 v221 j = ((logpFrom f p 5 16 : ℝ) : EReal) ∧ k0_pay49 lane st v221 j = left f p 5 := by
  have s7 : k0_pay44 lane st j = (f (p 7) : EReal) := hS 7 (by omega)
  have h7 : k0_pay45 lane st v221 j = left f p 7 := addV_row f ky p hp 7 (by omega) v221 (k0_pay44 lane st) j h8 s7
  have s6 : k0_pay46 lane st j = (f (p 6) : EReal) := hS 6 (by omega)
  have h6 : k0_pay47 lane st v221 j = left f p 6 := addV_row f ky p hp 6 (by omega) (k0_pay45 lane st v221) (k0_pay46 lane st) j h7 s6
  have s5 : k0_pay48 lane st j = (f (p 5) : EReal) := hS 5 (by omega)
  have h5 : k0_pay49 lane st v221 j = left f p 5 := addV_row f ky p hp 5 (by omega) (k0_pay47 lane st v221) (k0_pay48 lane st) j h6 s5
  have q8 := logpV_row f p 8 (by omega) v207 v213 v221 j q9 s8 h8
  have q7 := logpV_row f p 7 (by omega) _ (k0_pay44 lane st) (k0_pay45 lane st v221) j q8 s7 h7
  have q6 := logpV_row f p 6 (by omega) _ (k0_pay46 lane st) (k0_pay47 lane st v221) j q7 s6 h6
  have q5 := logpV_row f p 5 (by omega) _ (k0_pay48 lane st) (k0_pay49 lane st v221) j q6 s5 h5
  exact ⟨q5, h5⟩

include hp in
/-- Rounds 4 to 2. -/
theorem chain_d (v269 v271 : FVec Ideal S16x1x1 .f32)
    (q5 : v271 j = ((logpFrom f p 5 16 : ℝ) : EReal))
    (h5 : v269 j = left f p 5) :
    k0_pay57 lane st v269 v271 4#32 j = ((logpFrom f p 2 16 : ℝ) : EReal) ∧ k0_pay56 lane st v269 4#32 j = left f p 2 := by
  have s4 : k0_pay51 lane st 4#32 j = (f (p 4) : EReal) := hS 4 (by omega)
  have h4 : k0_pay52 lane st v269 4#32 j = left f p 4 := addV_row f ky p hp 4 (by omega) v269 (k0_pay51 lane st 4#32) j h5 s4
  have s3 : k0_pay53 lane st j = (f (p 3) : EReal) := hS 3 (by omega)
  have h3 : k0_pay54 lane st v269 4#32 j = left f p 3 := addV_row f ky p hp 3 (by omega) (k0_pay52 lane st v269 4#32) (k0_pay53 lane st) j h4 s3
  have s2 : k0_pay55 lane st j = (f (p 2) : EReal) := hS 2 (by omega)
  have h2 : k0_pay56 lane st v269 4#32 j = left f p 2 := addV_row f ky p hp 2 (by omega) (k0_pay54 lane st v269 4#32) (k0_pay55 lane st) j h3 s2
  have q4 := logpV_row f p 4 (by omega) v271 (k0_pay51 lane st 4#32) (k0_pay52 lane st v269 4#32) j q5 s4 h4
  have q3 := logpV_row f p 3 (by omega) _ (k0_pay53 lane st) (k0_pay54 lane st v269 4#32) j q4 s3 h3
  have q2 := logpV_row f p 2 (by omega) _ (k0_pay55 lane st) (k0_pay56 lane st v269 4#32) j q3 s2 h2
  exact ⟨q2, h2⟩

include hp in
/-- Rounds 1 and 0. -/
theorem chain_e (i : Fin 16) (hj : j = ix3 i 0 0) (v317 v319 : FVec Ideal S16x1x1 .f32)
    (q2 : v319 j = ((logpFrom f p 2 16 : ℝ) : EReal)) (h2 : v317 j = left f p 2) :
    k0_pay62 lane st v317 v319 (k0_pay58 lane) (Scalar.ofBits .f32 0x00000000#32) (ix2 i 0)
      = ((logpFrom f p 0 16 : ℝ) : EReal) := by
  have s1 : selV st 1#32 j = (f (p 1) : EReal) := hS 1 (by omega)
  have s0 : selV st 0#32 j = (f (p 0) : EReal) := hS 0 (by omega)
  have h1 := addV_row f ky p hp 1 (by omega) v317 (selV st 1#32) j h2 s1
  have h0 := addV_row f ky p hp 0 (by omega) (addV v317 (selV st 1#32)) (selV st 0#32) j h1 s0
  have q1 := logpV_row f p 1 (by omega) v319 (selV st 1#32) _ j q2 s1 h1
  have q0 := logpV_row f p 0 (by omega) _ (selV st 0#32) _ j q1 s0 h0
  rw [← q0, hj]
  show shapeCast S16x1 (shapeCast S16x1 (subf (addf (subf (addf v319 (selV st 1#32)) (addV v317 (selV st 1#32)))
    (selV st 0#32)) (addV (addV v317 (selV st 1#32)) (selV st 0#32))) shapeCasts_S16x1x1_S16x1) shapeCasts_S16x1_S16x1
      (ix2 i 0) = _
  generalize subf (addf (subf (addf v319 (selV st 1#32)) (addV v317 (selV st 1#32)))
    (selV st 0#32)) (addV (addV v317 (selV st 1#32)) (selV st 0#32)) = y
  pointwise

end Stages

include hp in
/-- The backward chain gives the sum of the rounds' log-probabilities. -/
theorem chain_apply (lg sm : FVec Ideal S16x136x128 .f32) (st : FVec Ideal S16x1x128 .f32) (i : Fin 16)
    (hl : glse (grid (leftV lg sm) i) = left f p 16)
    (hs : ∀ (k : ℕ) (hk : k < 16), st (ix3 i 0 ⟨k, by omega⟩) = (f (p k) : EReal)) :
    chainK lg sm st (ix2 i 0) = ((logpFrom f p 0 16 : ℝ) : EReal) := by
  obtain ⟨j, hj⟩ : ∃ j : S16x1x1.Idx, j = ix3 i 0 0 := ⟨_, rfl⟩
  have hS : ∀ (k : ℕ) (hk : k < 16), selV st (BitVec.ofNat 32 k) j = (f (p k) : EReal) := fun k hk => by
    rw [hj, selV_apply st i k (by omega)]
    exact hs k hk
  have h16 : lseV (leftV lg sm) j = left f p 16 := by rw [hj, lseV_apply, hl]
  have h15 : k0_pay21 lane lg sm st j = left f p 15 := addV_row f ky p hp 15 (by omega) _ _ j h16 (hS 15 (by omega))
  have q15 : k0_pay22 lane lg sm st j = ((logpFrom f p 15 16 : ℝ) : EReal) := by
    refine logpV_row f p 15 (by omega) (broadcast S16x1x1 (Scalar.ofBits .f32 0x00000000#32)) (k0_pay20 lane st)
      (k0_pay21 lane lg sm st) j ?_ (hS 15 (by omega)) h15
    show Ideal.ofBits .f32 0x00000000#32 = _
    rw [Ideal.ofBits_zero_f32]
    unfold logpFrom
    simp
  have s14 : k0_pay23 lane st j = (f (p 14) : EReal) := hS 14 (by omega)
  have h14 : k0_pay26 (k0_pay23 lane st) (k0_pay24 lane lg sm st) (k0_pay25 lane lg sm st) j = left f p 14 :=
    addV_row f ky p hp 14 (by omega) (k0_pay21 lane lg sm st) (k0_pay23 lane st) j h15 s14
  have A := chain_a f ky p hp st j hS _ _ _ _ q15 s14 h14
  have B := chain_b f ky p hp st j hS _ (k0_pay32 lane st) _ _ _ A.1 (hS 11 (by omega)) A.2
  have C := chain_c f ky p hp st j hS _ (k0_pay42 lane st) _ B.1 (hS 8 (by omega)) B.2
  have D := chain_d f ky p hp st j hS _ _ C.1 C.2
  exact chain_e f ky p hp st j hS i hj _ _ D.1 D.2

end Chain

end Cert.Proof.KernelValue
-- ==== Proof.Value.KernelRows.lean ====
/-
One batch row through the kernel's body. The padded grids of logits and keys hold the row's candidates and `-∞` elsewhere
(`logits_holds`, `keys_holds`, and the pads); the loop's sixteen trips then carry the sampler's state, the keys with the
drawn ones removed, the marks of the drawn ones and the drawn logits (`carried`).
-/
module

public import proofs.«01_k».proof.Proof.Value.KernelStep

@[expose] public section

set_option maxRecDepth 16384

noncomputable section

namespace Cert.Proof.KernelValue

open Idealize.ShloMosaic Cert.KernelIdeal Cert.KernelIdeal.Gen Cert.Proof.KernelIdeal
open Cert.Proof.Rows

/-! ### Small words -/

theorem cmpi_eq_small (a b : ℕ) (ha : a < 2 ^ 31) (hb : b < 2 ^ 31) :
    IntOp.cmpi .eq (BitVec.ofNat 32 a) (BitVec.ofNat 32 b) = BitVec.ofBool (decide (a = b)) := by
  show BitVec.ofBool (BitVec.ofNat 32 a == BitVec.ofNat 32 b) = _
  congr 1
  rw [Bool.eq_iff_iff, beq_iff_eq, decide_eq_true_iff]
  constructor
  · intro h
    have := congrArg BitVec.toNat h
    simp only [BitVec.toNat_ofNat] at this
    omega
  · intro h
    rw [h]

theorem cmpi_slt_small (a b : ℕ) (ha : a < 2 ^ 31) (hb : b < 2 ^ 31) :
    IntOp.cmpi .slt (BitVec.ofNat 32 a) (BitVec.ofNat 32 b) = BitVec.ofBool (decide (a < b)) := by
  show BitVec.ofBool (BitVec.slt (BitVec.ofNat 32 a) (BitVec.ofNat 32 b)) = _
  congr 1
  rw [BitVec.slt_eq_decide, BitVec.toInt_ofNat', BitVec.toInt_ofNat', Int.bmod_eq_of_le (by omega) (by omega),
    Int.bmod_eq_of_le (by omega) (by omega)]
  simp

/-! ### The candidates of a block's row -/

/-- What a logit is multiplied by where its candidate is masked out. -/
abbrev away : EReal := Ideal.ofBits .f32 0xC9742400#32

/-- The score of a pair of places of row `i`. -/
def scoreK (x0 x1 : Vec Ideal S16x128x64 .f32) (x2 : Vec Ideal S64x64 .f32) (i : Fin 16) (r c : Fin 128) : EReal :=
  ∑ y : Fin 64, (∑ z : Fin 64, x0 (ix3 i r z) * x2 (ix2 z y)) * x1 (ix3 i c y)

/-- The logits of row `i` of a block, one per candidate. -/
def lgRow (x0 x1 : Vec Ideal S16x128x64 .f32) (x2 : Vec Ideal S64x64 .f32) (x3 : Vec Ideal S16x128x128 .f32)
    (x5 : Vec Ideal S16x1x128 .f32) (x7 : Vec Ideal S1x128 .f32) (i : Fin 16) (n : Fin L) : EReal :=
  if h : n.val < 16256 then
    x3 (ix3 i ⟨n.val / 127, by omega⟩ ⟨n.val % 127, by omega⟩) * away
      + scoreK x0 x1 x2 i ⟨n.val / 127, by omega⟩ (gc n)
        * (1 - x3 (ix3 i ⟨n.val / 127, by omega⟩ ⟨n.val % 127, by omega⟩))
  else x5 (ix3 i 0 (gc n)) * away + x7 (ix2 0 (gc n)) * (1 - x5 (ix3 i 0 (gc n)))

/-- The keys of row `i` of a block: the logits plus the noise. -/
def kyRow (x0 x1 : Vec Ideal S16x128x64 .f32) (x2 : Vec Ideal S64x64 .f32) (x3 x4 : Vec Ideal S16x128x128 .f32)
    (x5 x6 : Vec Ideal S16x1x128 .f32) (x7 : Vec Ideal S1x128 .f32) (i : Fin 16) (n : Fin L) : EReal :=
  lgRow x0 x1 x2 x3 x5 x7 i n
    + if h : n.val < 16256 then x4 (ix3 i ⟨n.val / 127, by omega⟩ ⟨n.val % 127, by omega⟩) else x6 (ix3 i 0 (gc n))

/-- A `[128, 128]` grid row that holds 127 values, its columns from the diagonal on read one place to the left. -/
def shifted (x : Vec Ideal S16x128x128 .f32) (i : Fin 16) (r c : Fin 128) : EReal :=
  if c.val < r.val then x (ix3 i r c) else x (ix3 i r ⟨(c.val + 128 - 1) % 128, Nat.mod_lt _ (by norm_num)⟩)

theorem shifted_at (x : Vec Ideal S16x128x128 .f32) (i : Fin 16) (n : Fin L) (h : n.val < 16256) :
    shifted x i ⟨n.val / 127, by omega⟩ (gc n) = x (ix3 i ⟨n.val / 127, by omega⟩ ⟨n.val % 127, by omega⟩) := by
  unfold shifted gc
  simp only [h, if_true]
  by_cases hd : n.val / 127 ≤ n.val % 127
  · simp only [hd, if_true]
    rw [if_neg (by omega)]
    congr 2
    apply Fin.ext
    simp only
    omega
  · simp only [hd, if_false]
    rw [if_pos (by omega)]

theorem pay9_apply (x0 x1 : Vec Ideal S16x128x64 .f32) (x2 : Vec Ideal S64x64 .f32) (x3 : Vec Ideal S16x128x128 .f32)
    (i : Fin 16) (r c : Fin 128) :
    k0_pay9 x0 x1 x2 x3 (ix3 i r c)
      = if c.val = r.val then ⊥
        else shifted x3 i r c * away + scoreK x0 x1 x2 i r c * (1 - shifted x3 i r c) := by
  have hr := r.isLt
  have hc := c.isLt
  unfold k0_pay9 k0_pay7 k0_pay8
  pointwise
  rw [cmpi_eq_small _ _ (by omega) (by omega), cmpi_slt_small _ _ (by omega) (by omega), select_ofBool, select_ofBool,
    neg_bot]
  simp only [decide_eq_true_eq]
  rfl

theorem pay10_apply (x0 x1 : Vec Ideal S16x128x64 .f32) (x2 : Vec Ideal S64x64 .f32) (x3 x4 : Vec Ideal S16x128x128 .f32)
    (i : Fin 16) (r c : Fin 128) :
    k0_pay10 x0 x1 x2 x3 x4 (ix3 i r c)
      = if c.val = r.val then ⊥ else k0_pay9 x0 x1 x2 x3 (ix3 i r c) + shifted x4 i r c := by
  have hr := r.isLt
  have hc := c.isLt
  unfold k0_pay10 k0_pay7 k0_pay8
  generalize k0_pay9 x0 x1 x2 x3 = y
  pointwise
  rw [cmpi_eq_small _ _ (by omega) (by omega), cmpi_slt_small _ _ (by omega) (by omega), select_ofBool, select_ofBool,
    neg_bot]
  simp only [decide_eq_true_eq]
  rfl

theorem pay13_apply (y : FVec Ideal S16x128x128 .f32) (x7 : Vec Ideal S1x128 .f32) (x5 : Vec Ideal S16x1x128 .f32)
    (i : Fin 16) (r : Fin 136) (c : Fin 128) :
    k0_pay13 y (k0_pay11 x7) x5 (ix3 i r c)
      = if h : r.val < 128 then y (ix3 i ⟨r.val, h⟩ c)
        else if r.val = 128 ∧ c.val < 16 then x5 (ix3 i 0 c) * away + x7 (ix2 0 c) * (1 - x5 (ix3 i 0 c)) else ⊥ := by
  have hr := r.isLt
  have hc := c.isLt
  unfold k0_pay13 k0_pay12 k0_pay11
  pointwise
  rw [cmpi_eq_small _ 0 (by omega) (by omega), cmpi_slt_small _ 16 (by omega) (by omega), select_ofBool, select_ofBool,
    neg_bot]
  simp only [decide_eq_true_eq]
  by_cases h : r.val < 128
  · simp only [h, dif_pos]
  · simp only [h, dif_neg, not_false_iff]
    by_cases h1 : r.val = 128 <;> by_cases h2 : c.val < 16
    · simp [h1, h2]
    · simp [h1, h2]
    · have : ¬ r.val - 128 = 0 := by omega
      simp [h1, this]
    · have : ¬ r.val - 128 = 0 := by omega
      simp [h1, this]

theorem pay14_apply (y : FVec Ideal S16x128x128 .f32) (x7 : Vec Ideal S1x128 .f32) (x5 x6 : Vec Ideal S16x1x128 .f32)
    (i : Fin 16) (r : Fin 136) (c : Fin 128) :
    k0_pay14 y (k0_pay11 x7) x5 x6 (ix3 i r c)
      = if h : r.val < 128 then y (ix3 i ⟨r.val, h⟩ c)
        else if r.val = 128 ∧ c.val < 16 then
          x5 (ix3 i 0 c) * away + x7 (ix2 0 c) * (1 - x5 (ix3 i 0 c)) + x6 (ix3 i 0 c) else ⊥ := by
  have hr := r.isLt
  have hc := c.isLt
  unfold k0_pay14 k0_pay12 k0_pay11
  pointwise
  rw [cmpi_eq_small _ 0 (by omega) (by omega), cmpi_slt_small _ 16 (by omega) (by omega), select_ofBool, select_ofBool,
    select_ofBool, neg_bot]
  simp only [decide_eq_true_eq]
  by_cases h : r.val < 128
  · simp only [h, dif_pos]
  · simp only [h, dif_neg, not_false_iff]
    by_cases h1 : r.val = 128 <;> by_cases h2 : c.val < 16
    · simp [h1, h2]
    · simp [h1, h2]
    · have : ¬ r.val - 128 = 0 := by omega
      simp [h1, this]
    · have : ¬ r.val - 128 = 0 := by omega
      simp [h1, this]

/-! ### Candidates and pads, by their coordinates -/

theorem gr_lt (n : Fin L) (h : n.val < 16256) : (gr n).val = n.val / 127 := by
  simp only [gr, h, if_true]

theorem gr_ge (n : Fin L) (h : ¬ n.val < 16256) : (gr n).val = 128 := by
  simp only [gr, h, if_false]

theorem gc_ge (n : Fin L) (h : ¬ n.val < 16256) : (gc n).val < 16 := by
  have := n.isLt
  simp only [L] at this
  simp only [gc, h, if_false]
  omega

theorem gc_ne (n : Fin L) (h : n.val < 16256) : (gc n).val ≠ n.val / 127 := by
  simp only [gc, h, if_true]
  split <;> omega

theorem pad_iff (r : Fin 136) (c : Fin 128) (h : Pad r c) :
    (r.val < 128 ∧ c.val = r.val) ∨ (¬ r.val < 128 ∧ ¬ (r.val = 128 ∧ c.val < 16)) := by
  by_contra hc
  have hc' := c.isLt
  by_cases hr : r.val < 128
  · by_cases hlt : c.val < r.val
    · refine h ⟨127 * r.val + c.val, by simp only [L]; omega⟩ ⟨Fin.ext ?_, Fin.ext ?_⟩
      · simp only [gr]
        split <;> omega
      · simp only [gc]
        split
        · split <;> omega
        · omega
    · have hne : c.val ≠ r.val := fun e => hc (.inl ⟨hr, e⟩)
      refine h ⟨127 * r.val + c.val - 1, by simp only [L]; omega⟩ ⟨Fin.ext ?_, Fin.ext ?_⟩
      · simp only [gr]
        split <;> omega
      · simp only [gc]
        split
        · split <;> omega
        · omega
  · have h2 : r.val = 128 ∧ c.val < 16 := by
      by_contra h2
      exact hc (.inr ⟨hr, h2⟩)
    refine h ⟨16256 + c.val, by simp only [L]; omega⟩ ⟨Fin.ext ?_, Fin.ext ?_⟩
    · simp only [gr]
      split <;> omega
    · simp only [gc]
      split
      · omega
      · omega

section Blocks

variable (x0 x1 : Vec Ideal S16x128x64 .f32) (x2 : Vec Ideal S64x64 .f32) (x3 x4 : Vec Ideal S16x128x128 .f32)
  (x5 x6 : Vec Ideal S16x1x128 .f32) (x7 : Vec Ideal S1x128 .f32) (i : Fin 16)

theorem logits_holds : Holds (grid (logitsK x0 x1 x2 x3 x5 x7) i) (lgRow x0 x1 x2 x3 x5 x7 i) := by
  intro n
  unfold grid logitsK lgRow
  rw [pay13_apply]
  by_cases h : n.val < 16256
  · have hr := gr_lt n h
    rw [dif_pos (by rw [hr]; omega), dif_pos h]
    have e : (⟨(gr n).val, by rw [hr]; omega⟩ : Fin 128) = ⟨n.val / 127, by omega⟩ := Fin.ext hr
    rw [e, pay9_apply, if_neg (gc_ne n h), shifted_at x3 i n h]
  · rw [dif_neg (by rw [gr_ge n h]; omega), if_pos ⟨gr_ge n h, gc_ge n h⟩, dif_neg h]

theorem logits_pads : Pads (grid (logitsK x0 x1 x2 x3 x5 x7) i) ⊥ := by
  intro r c hp
  unfold grid logitsK
  rw [pay13_apply]
  rcases pad_iff r c hp with ⟨h, h'⟩ | ⟨h, h'⟩
  · rw [dif_pos h, pay9_apply, if_pos h']
  · rw [dif_neg h, if_neg h']

theorem keys_holds : Holds (grid (keysK x0 x1 x2 x3 x4 x5 x6 x7) i) (kyRow x0 x1 x2 x3 x4 x5 x6 x7 i) := by
  intro n
  unfold grid keysK kyRow lgRow
  rw [pay14_apply]
  by_cases h : n.val < 16256
  · have hr := gr_lt n h
    rw [dif_pos (by rw [hr]; omega), dif_pos h, dif_pos h]
    have e : (⟨(gr n).val, by rw [hr]; omega⟩ : Fin 128) = ⟨n.val / 127, by omega⟩ := Fin.ext hr
    rw [e, pay10_apply, if_neg (gc_ne n h), pay9_apply, if_neg (gc_ne n h), shifted_at x3 i n h, shifted_at x4 i n h]
  · rw [dif_neg (by rw [gr_ge n h]; omega), if_pos ⟨gr_ge n h, gc_ge n h⟩, dif_neg h, dif_neg h]

theorem keys_pads : Pads (grid (keysK x0 x1 x2 x3 x4 x5 x6 x7) i) ⊥ := by
  intro r c hp
  unfold grid keysK
  rw [pay14_apply]
  rcases pad_iff r c hp with ⟨h, h'⟩ | ⟨h, h'⟩
  · rw [dif_pos h, pay10_apply, if_pos h']
  · rw [dif_neg h, if_neg h']

end Blocks

/-! ### The loop -/

section Loop

variable (lgV kyV : FVec Ideal S16x136x128 .f32) (i : Fin 16) (lg ky : Fin L → EReal) (p : ℕ → Fin L)

/-- What the loop carries before trip `k`, at row `i`. -/
structure RowInv (a : St Ideal) (k : ℕ) : Prop where
  carries : Carries (grid a.1 i, grid a.2.1 i, grid a.2.2.1 i) (samp ky k)
  keys : grid a.2.2.2.1 i = gkeys (grid kyV i) p k
  marks : grid a.2.2.2.2.1 i = gmask p k
  drawn : ∀ t : Fin 128, t.val < k → a.2.2.2.2.2 (ix3 i 0 t) = lg (p t.val)

theorem rowInv_zero (hk : Holds (grid kyV i) ky) (hkp : Pads (grid kyV i) ⊥) :
    RowInv kyV i lg ky p (startK kyV) 0 := by
  have hz : ∀ n, (k0_pay16 (F := Ideal)) n = 0 := by
    intro n
    unfold k0_pay16
    pointwise
  refine ⟨⟨hk, hkp, fun n => hz (ix3 i (gr n) (gc n)), fun n => hz (ix3 i (gr n) (gc n))⟩, ?_, ?_, fun t ht => absurd ht (Nat.not_lt_zero _)⟩
  · funext r c
    exact (gkeys_zero _ p r c).symm
  · funext r c
    exact (hz (ix3 i r c)).trans (gmask_zero p r c).symm

theorem rowInv_step (hl : Holds (grid lgV i) lg) (hk : Holds (grid kyV i) ky) (hkr : Real' ky)
    (hkp : Pads (grid kyV i) ⊥) (hp : Picks ky p) (k : Fin k0_t1_loop.trips) (hk16 : k.val < 16) (a : St Ideal)
    (h : RowInv kyV i lg ky p a k.val) :
    RowInv kyV i lg ky p (stepK lane lgV k0_pay15 k a) (k.val + 1) := by
  classical
  have hmark : ∀ r c, k0_pay5 k0_pay15 a.2.2.2.1 (ix3 i r c)
      = BitVec.ofBool (decide (r = gr (p k.val) ∧ c = gc (p k.val))) := by
    intro r c
    rw [mark_apply, h.keys]
    exact congrArg BitVec.ofBool
      (decide_eq_decide.mpr (marked_iff _ ky hk hkr hkp p hp k.val hk16 big flat_le_big r c))
  refine ⟨?_, ?_, ?_, ?_⟩
  · have := h.carries.step
    change Carries (grid (k0_pay2 a.1 a.2.1) i, grid (k0_pay3 a.1 a.2.1) i, grid (k0_pay4 a.1 a.2.1 a.2.2.1) i) _
    rw [grid_sum, grid_soft, grid_next]
    exact this
  · funext r c
    show k0_pay18 _ _ (ix3 i r c) = _
    rw [mask_bot, hmark, select_ofBool, ← gkeys_succ, ← h.keys]
    simp only [decide_eq_true_eq]
    rfl
  · funext r c
    show k0_pay19 _ _ (ix3 i r c) = _
    rw [count_apply _ _ i r c _ (hmark r c), ← gmask_succ ky p hp k.val hk16, ← h.marks]
    simp only [decide_eq_true_eq]
    rfl
  · intro t ht
    show k0_pay6 lane lgV k0_pay15 0#32 1#32 k a.2.2.2.1 a.2.2.2.2.2 (ix3 i 0 t) = _
    rw [store_apply _ _ _ _ k hk16]
    by_cases he : t.val = k.val
    · rw [if_pos he, he, ← marked_sum (grid lgV i) lg hl (p k.val)]
      refine congrArg gsum (funext fun r => funext fun c => ?_)
      rw [hmark, select_ofBool]
      simp only [decide_eq_true_eq]
    · rw [if_neg he]
      exact h.drawn t (by omega)

theorem trips_eq : k0_t1_loop.trips = 16 := by decide

/-- What the loop leaves at row `i`. -/
theorem carried (hl : Holds (grid lgV i) lg) (hk : Holds (grid kyV i) ky) (hkr : Real' ky)
    (hkp : Pads (grid kyV i) ⊥) (hp : Picks ky p) : RowInv kyV i lg ky p (loopK lgV kyV) 16 := by
  have : ∀ k ≤ 16, RowInv kyV i lg ky p (stTo lane lgV k0_pay15 (startK kyV) k) k := by
    intro k
    induction k with
    | zero => exact fun _ => rowInv_zero kyV i lg ky p hk hkp
    | succ k ih =>
      intro hk16
      have h := ih (by omega)
      have := rowInv_step lgV kyV i lg ky p hl hk hkr hkp hp ⟨k, by rw [trips_eq]; omega⟩ (by show k < 16; omega) _ h
      rw [← stTo_succ] at this
      exact this
  have h16 := this 16 le_rfl
  unfold loopK
  rw [trips_eq]
  exact h16

/-- The log-probability of row `i`. -/
theorem logp_apply (f : Fin L → ℝ) (hf : lg = fun n => (f n : EReal)) (hl : Holds (grid lgV i) lg)
    (hlp : Pads (grid lgV i) ⊥) (hk : Holds (grid kyV i) ky) (hkr : Real' ky)
    (hkp : Pads (grid kyV i) ⊥) (hp : Picks ky p) :
    chainK lgV (loopK lgV kyV).2.2.2.2.1 (loopK lgV kyV).2.2.2.2.2 (ix2 i 0) = ((logpFrom f p 0 16 : ℝ) : EReal) := by
  have hc := carried lgV kyV i lg ky p hl hk hkr hkp hp
  refine chain_apply f ky p hp _ _ _ i ?_ fun k hk => ?_
  · rw [leftV_grid, hc.marks, glse_eq _ _ (masked_holds _ lg hl p 16) (masked_pads _ hlp p 16), hf,
      lse_undrawn _ ⟨f, rfl⟩ p 16 le_rfl]
  · rw [hc.drawn ⟨k, by omega⟩ hk, hf]

/-- The sampled weights of row `i`, at a candidate. -/
theorem khot_apply (hl : Holds (grid lgV i) lg) (hk : Holds (grid kyV i) ky) (hkr : Real' ky)
    (hkp : Pads (grid kyV i) ⊥) (hp : Picks ky p) (n : Fin L) :
    (loopK lgV kyV).2.2.1 (ix3 i (gr n) (gc n)) = (samp ky 16).2.2 n :=
  (carried lgV kyV i lg ky p hl hk hkr hkp hp).carries.k n

end Loop

end Cert.Proof.KernelValue
-- ==== Proof.Value.KernelOut.lean ====
/-
What the kernel's body stores for one batch row, entry by entry: the sampled weights, the adjacency with its empty diagonal,
and the log-probability.
-/
module

public import proofs.«01_k».proof.Proof.Value.KernelRows

@[expose] public section

set_option maxRecDepth 16384

noncomputable section

namespace Cert.Proof.KernelValue

open Idealize.ShloMosaic Cert.KernelIdeal Cert.KernelIdeal.Gen Cert.Proof.KernelIdeal
open Cert.Proof.Rows

/-- The candidate of an off-diagonal pair of places. -/
def pair (r c : Fin 128) : Fin L :=
  ⟨127 * r.val + (if c.val < r.val then c.val else c.val - 1), by
    have := r.isLt; have := c.isLt; simp only [L]; split <;> omega⟩

theorem gr_pair (r c : Fin 128) (h : c.val ≠ r.val) : (gr (pair r c)).val = r.val := by
  have := r.isLt
  have := c.isLt
  simp only [gr, pair]
  split <;> split <;> omega

theorem gc_pair (r c : Fin 128) (h : c.val ≠ r.val) : gc (pair r c) = c := by
  have := r.isLt
  have := c.isLt
  apply Fin.ext
  simp only [gc, pair]
  split <;> split <;> first | omega | (split <;> omega)

theorem pay60_apply (k : FVec Ideal S16x136x128 .f32) (i : Fin 16) (r c : Fin 128) :
    k0_pay60 k0_pay8 k (ix3 i r c)
      = if c.val = r.val then 0 else k (ix3 i ⟨r.val, by omega⟩ c) := by
  have hr := r.isLt
  have hc := c.isLt
  unfold k0_pay60 k0_pay59 k0_pay8
  pointwise
  rw [cmpi_eq_small _ _ (by omega) (by omega), select_ofBool]
  simp only [decide_eq_true_eq, Ideal.ofBits_zero_f32]

theorem pay61_apply (k : FVec Ideal S16x136x128 .f32) (i : Fin 16) (r c : Fin 128) :
    k0_pay61 k0_pay7 k (ix3 i r c)
      = if c.val < r.val then k (ix3 i ⟨r.val, by omega⟩ c)
        else k (ix3 i ⟨r.val, by omega⟩ ⟨(c.val + 128 - 127) % 128, Nat.mod_lt _ (by norm_num)⟩) := by
  have hr := r.isLt
  have hc := c.isLt
  unfold k0_pay61 k0_pay59 k0_pay7
  pointwise
  rw [cmpi_slt_small _ _ (by omega) (by omega), select_ofBool]
  simp only [decide_eq_true_eq]

theorem pay1_apply (x : FVec Ideal S16x1 .f32) (i : Fin 16) (l : Fin 128) : k0_pay1 x (ix2 i l) = x (ix2 i 0) := by
  unfold k0_pay1
  pointwise

section Blocks

variable (x0 x1 : Vec Ideal S16x128x64 .f32) (x2 : Vec Ideal S64x64 .f32) (x3 x4 : Vec Ideal S16x128x128 .f32)
  (x5 x6 : Vec Ideal S16x1x128 .f32) (x7 : Vec Ideal S1x128 .f32) (i : Fin 16) (f : Fin L → ℝ) (p : ℕ → Fin L)

theorem off3 : (![0, 0, 0] : Fin 3 → ℕ) = fun _ => 0 := by
  funext a; match a with | 0 => rfl | 1 => rfl | 2 => rfl

theorem off2 : (![0, 0] : Fin 2 → ℕ) = fun _ => 0 := by
  funext a; match a with | 0 => rfl | 1 => rfl

theorem ld0 : View.ld x0 r0_0 = x0 := View.ld_unit_zero (S := S16x128x64) off3 _ _
theorem ld1 : View.ld x1 r0_1 = x1 := View.ld_unit_zero (S := S16x128x64) off3 _ _
theorem ld2 : View.ld x2 r0_2 = x2 := View.ld_unit_zero (S := S64x64) off2 _ _
theorem ld3 : View.ld x3 r0_3 = x3 := View.ld_unit_zero (S := S16x128x128) off3 _ _
theorem ld4 : View.ld x4 r0_4 = x4 := View.ld_unit_zero (S := S16x128x128) off3 _ _
theorem ld5 : View.ld x5 r0_5 = x5 := View.ld_unit_zero (S := S16x1x128) off3 _ _
theorem ld6 : View.ld x6 r0_6 = x6 := View.ld_unit_zero (S := S16x1x128) off3 _ _
theorem ld7 : View.ld x7 r0_7 = x7 := View.ld_unit_zero (S := S1x128) off2 _ _

/-- The loop's result, the blocks read whole. -/
theorem fin_eq : fin x0 x1 x2 x3 x4 x5 x6 x7
    = loopK (logitsK x0 x1 x2 x3 x5 x7) (keysK x0 x1 x2 x3 x4 x5 x6 x7) := by
  unfold fin
  simp only [ld0, ld1, ld2, ld3, ld4, ld5, ld6, ld7]

theorem finL_eq : finL x0 x1 x2 x3 x4 x5 x6 x7
    = chainK (logitsK x0 x1 x2 x3 x5 x7) (fin x0 x1 x2 x3 x4 x5 x6 x7).2.2.2.2.1
        (fin x0 x1 x2 x3 x4 x5 x6 x7).2.2.2.2.2 := by
  unfold finL
  simp only [ld0, ld1, ld2, ld3, ld5, ld7]

theorem out8_apply (hk : Real' (kyRow x0 x1 x2 x3 x4 x5 x6 x7 i)) (hp : Picks (kyRow x0 x1 x2 x3 x4 x5 x6 x7 i) p)
    (n : Fin L) (h : n.val < 16256) :
    out0_8 x0 x1 x2 x3 x4 x5 x6 x7 (ix3 i ⟨n.val / 127, by omega⟩ ⟨n.val % 127, by omega⟩)
      = (samp (kyRow x0 x1 x2 x3 x4 x5 x6 x7 i) 16).2.2 n := by
  have key := khot_apply _ _ i _ _ p (logits_holds x0 x1 x2 x3 x5 x7 i) (keys_holds x0 x1 x2 x3 x4 x5 x6 x7 i) hk
    (keys_pads x0 x1 x2 x3 x4 x5 x6 x7 i) hp n
  unfold out0_8
  rw [View.canon_unit_zero off3, pay61_apply]
  have er : (⟨n.val / 127, by omega⟩ : Fin 136) = gr n := Fin.ext (gr_lt n h).symm
  rw [fin_eq, ← key]
  generalize (loopK (logitsK x0 x1 x2 x3 x5 x7) (keysK x0 x1 x2 x3 x4 x5 x6 x7)).2.2.1 = X
  rw [er]
  by_cases hd : n.val % 127 < n.val / 127
  · rw [if_pos (by exact hd)]
    refine congrArg (fun z => X (ix3 i (gr n) z)) (Fin.ext ?_)
    simp only [gc, h, if_true]
    split <;> omega
  · rw [if_neg (by exact hd)]
    refine congrArg (fun z => X (ix3 i (gr n) z)) (Fin.ext ?_)
    simp only [gc, h, if_true]
    split <;> omega

theorem out9_apply (hk : Real' (kyRow x0 x1 x2 x3 x4 x5 x6 x7 i)) (hp : Picks (kyRow x0 x1 x2 x3 x4 x5 x6 x7 i) p) (r c : Fin 128) :
    out0_9 x0 x1 x2 x3 x4 x5 x6 x7 (ix3 i r c)
      = if c.val = r.val then 0 else (samp (kyRow x0 x1 x2 x3 x4 x5 x6 x7 i) 16).2.2 (pair r c) := by
  have key := khot_apply _ _ i _ _ p (logits_holds x0 x1 x2 x3 x5 x7 i) (keys_holds x0 x1 x2 x3 x4 x5 x6 x7 i) hk
    (keys_pads x0 x1 x2 x3 x4 x5 x6 x7 i) hp (pair r c)
  unfold out0_9
  rw [View.canon_unit_zero off3, pay60_apply]
  by_cases hd : c.val = r.val
  · rw [if_pos hd, if_pos hd]
  · rw [if_neg hd, if_neg hd, ← key, gc_pair r c hd]
    have er : (⟨r.val, by omega⟩ : Fin 136) = gr (pair r c) := Fin.ext (gr_pair r c hd).symm
    rw [er, fin_eq]

theorem out10_apply (hf : lgRow x0 x1 x2 x3 x5 x7 i = fun n => (f n : EReal))
    (hk : Real' (kyRow x0 x1 x2 x3 x4 x5 x6 x7 i)) (hp : Picks (kyRow x0 x1 x2 x3 x4 x5 x6 x7 i) p) (l : Fin 128) :
    out0_10 x0 x1 x2 x3 x4 x5 x6 x7 (ix2 i l) = ((logpFrom f p 0 16 : ℝ) : EReal) := by
  have key := logp_apply _ _ i _ _ p f hf (logits_holds x0 x1 x2 x3 x5 x7 i) (logits_pads x0 x1 x2 x3 x5 x7 i)
    (keys_holds x0 x1 x2 x3 x4 x5 x6 x7 i) hk (keys_pads x0 x1 x2 x3 x4 x5 x6 x7 i) hp
  unfold out0_10
  rw [View.canon_unit_zero off2, pay1_apply, finL_eq, fin_eq]
  exact key

end Blocks

end Cert.Proof.KernelValue
-- ==== Proof.Value.KernelHost.lean ====
/-
The kernel's host lines and blocks: what each window's block holds of the argument arrays.
-/
module

public import proofs.«01_k».proof.Proof.Value.KernelOut
public import proofs.«01_k».proof.Proof.Value.Spec
public import Idealize.ShloMosaic.Lib.Pipeline.ValueKit
public import Idealize.ShloMosaic.Lib.StableHlo.RunRead

@[expose] public section

set_option maxRecDepth 16384

noncomputable section

namespace Cert.Proof.KernelValue

open Idealize.ShloMosaic Idealize.ShloMosaic.TcCoe Cert.KernelIdeal Cert.KernelIdeal.Gen Cert.Proof.KernelIdeal
open Cert.Proof.Rows

variable (m : (l : Loc nD τ sig) → Buf (Elt Ideal) l) (c : Dev nD)

theorem gc_val (n : Fin L) (h : ¬ n.val < 16256) : (gc n).val = n.val - 16256 := by
  have := n.isLt
  simp only [L] at this
  simp only [gc, h, if_false]

/-! ### The argument arrays, entry by entry -/

abbrev arg0 : Vec Ideal S64x128x64 .f32 := m (c.tc.loc main_arg0)
abbrev arg1 : Vec Ideal S64x128x64 .f32 := m (c.tc.loc main_arg1)
abbrev arg2 : Vec Ideal S64x16272 .f32 := m (c.tc.loc main_arg2)
abbrev arg3 : Vec Ideal S64x16272 .f32 := m (c.tc.loc main_arg3)
abbrev arg4 : Vec Ideal S64x64 .f32 := m (c.tc.loc main_arg4)
abbrev arg5 : Vec Ideal S16 .f32 := m (c.tc.loc main_arg5)

/-- The positions. -/
def pos (b : Fin 64) (r : Fin 128) (h : Fin 64) : EReal := arg0 m c (ix3 b r h)
/-- The images. -/
def mage (b : Fin 64) (r : Fin 128) (h : Fin 64) : EReal := arg1 m c (ix3 b r h)
/-- The mask. -/
def mask (b : Fin 64) (n : Fin L) : EReal := arg2 m c (ix2 b n)
/-- The noise. -/
def gum (b : Fin 64) (n : Fin L) : EReal := arg3 m c (ix2 b n)
/-- The weights. -/
def wts (k h : Fin 64) : EReal := arg4 m c (ix2 k h)
/-- The dummies' logits. -/
def dum (t : Fin 16) : EReal := arg5 m c (ix1 t)

/-- The value the host's pads fill with. -/
abbrev fill : FVec Ideal S_ .f32 := sitofp .f32 (constantI S_ 32 0#32)

theorem V_mask : (V m c main_call0_v2 : Vec Ideal S64x128x128 .f32) = pad S64x128x128 ![0, 0, 0] ![0, 0, 1] ![0, 0, 0]
    (shapeCast S64x128x127 (extractStridedSlice S64x16256 ![0, 0] (arg2 m c)
      slices_S64x16272_S64x16256_0_0) shapeCasts_S64x16256_S64x128x127)
    fill pads_S64x128x127_S64x128x128_000_000_010 h_S_ := by
  unfold_abbrev_sides
  after_reads_simp
  rfl

theorem mask_apply (b : Fin 64) (n : Fin L) (h : n.val < 16256) :
    (V m c main_call0_v2 : Vec Ideal S64x128x128 .f32) (ix3 b ⟨n.val / 127, by omega⟩ ⟨n.val % 127, by omega⟩)
      = mask m c b n := by
  rw [V_mask]
  unfold mask
  generalize arg2 m c = x
  pointwise
  rw [dif_pos ⟨by omega, by omega⟩]
  refine congrArg (fun z => x (ix2 b z)) (Fin.ext ?_)
  simp only
  omega

theorem V_gum : (V m c main_call0_v5 : Vec Ideal S64x128x128 .f32) = pad S64x128x128 ![0, 0, 0] ![0, 0, 1] ![0, 0, 0]
    (shapeCast S64x128x127 (extractStridedSlice S64x16256 ![0, 0] (arg3 m c)
      slices_S64x16272_S64x16256_0_0) shapeCasts_S64x16256_S64x128x127)
    fill pads_S64x128x127_S64x128x128_000_000_010 h_S_ := by
  unfold_abbrev_sides
  after_reads_simp
  rfl

theorem gum_apply (b : Fin 64) (n : Fin L) (h : n.val < 16256) :
    (V m c main_call0_v5 : Vec Ideal S64x128x128 .f32) (ix3 b ⟨n.val / 127, by omega⟩ ⟨n.val % 127, by omega⟩)
      = gum m c b n := by
  rw [V_gum]
  unfold gum
  generalize arg3 m c = x
  pointwise
  rw [dif_pos ⟨by omega, by omega⟩]
  refine congrArg (fun z => x (ix2 b z)) (Fin.ext ?_)
  simp only
  omega

theorem V_dmask : (V m c main_call0_v8 : Vec Ideal S64x1x128 .f32) = pad S64x1x128 ![0, 0, 0] ![0, 0, 112] ![0, 0, 0]
    (shapeCast S64x1x16 (extractStridedSlice S64x16 ![0, 16256] (arg2 m c)
      slices_S64x16272_S64x16_0_16256) shapeCasts_S64x16_S64x1x16)
    fill pads_S64x1x16_S64x1x128_000_000_01120 h_S_ := by
  unfold_abbrev_sides
  after_reads_simp
  rfl

theorem dmask_apply (b : Fin 64) (n : Fin L) (h : ¬ n.val < 16256) :
    (V m c main_call0_v8 : Vec Ideal S64x1x128 .f32) (ix3 b 0 (gc n)) = mask m c b n := by
  have hc := gc_ge n h
  have hv := gc_val n h
  rw [V_dmask]
  unfold mask
  generalize arg2 m c = x
  pointwise
  rw [dif_pos (by omega)]
  refine congrArg (fun z => x (ix2 b z)) (Fin.ext ?_)
  simp only
  omega

theorem V_dgum : (V m c main_call0_v11 : Vec Ideal S64x1x128 .f32) = pad S64x1x128 ![0, 0, 0] ![0, 0, 112] ![0, 0, 0]
    (shapeCast S64x1x16 (extractStridedSlice S64x16 ![0, 16256] (arg3 m c)
      slices_S64x16272_S64x16_0_16256) shapeCasts_S64x16_S64x1x16)
    fill pads_S64x1x16_S64x1x128_000_000_01120 h_S_ := by
  unfold_abbrev_sides
  after_reads_simp
  rfl

theorem dgum_apply (b : Fin 64) (n : Fin L) (h : ¬ n.val < 16256) :
    (V m c main_call0_v11 : Vec Ideal S64x1x128 .f32) (ix3 b 0 (gc n)) = gum m c b n := by
  have hc := gc_ge n h
  have hv := gc_val n h
  rw [V_dgum]
  unfold gum
  generalize arg3 m c = x
  pointwise
  rw [dif_pos (by omega)]
  refine congrArg (fun z => x (ix2 b z)) (Fin.ext ?_)
  simp only
  omega

theorem V_dum : (V m c main_call0_v13 : Vec Ideal S1x128 .f32) = pad S1x128 ![0, 0] ![0, 112] ![0, 0]
    (shapeCast S1x16 (arg5 m c) shapeCasts_S16_S1x16) fill pads_S1x16_S1x128_000_01120 h_S_ := by
  unfold_abbrev_sides
  after_reads_simp
  rfl

theorem dum_apply (n : Fin L) (h : ¬ n.val < 16256) :
    (V m c main_call0_v13 : Vec Ideal S1x128 .f32) (ix2 0 (gc n))
      = dum m c ⟨n.val - 16256, by have := n.isLt; simp only [L] at this; omega⟩ := by
  have hc := gc_ge n h
  have hv := gc_val n h
  rw [V_dum]
  unfold dum
  generalize arg5 m c = x
  pointwise
  rw [dif_pos (by omega)]
  refine congrArg (fun z => x (ix1 z)) (Fin.ext ?_)
  simp only
  omega

/-! ### The blocks -/

theorem pt_lt (t : Fin cfg0.N) : t.val < 4 := t.isLt

/-- The batch row that row `i` of a block at point `t` is. -/
def brow (t : Fin cfg0.N) (i : Fin 16) : Fin 64 := ⟨t.val * 16 + i.val, by have := pt_lt t; omega⟩

theorem index0 : ∀ t : Fin cfg0.N, win0_0.index t = ![t.val, 0, 0] := (by decide +kernel : ∀ t : Fin grid0.N, _)

theorem blk0 (t : Fin cfg0.N) (i : Fin 16) (r : Fin 128) (q : Fin 64) :
    (iblk m c 0 t : Vec Ideal S16x128x64 .f32) (ix3 i r q) = (V m c main_arg0 : Vec Ideal S64x128x64 .f32) (ix3 (brow t i) r q) := by
  blk_simp [iblk]
  refine congrArg (V m c main_arg0) ?_
  unfold brow
  blk_ext [index0]

theorem index1 : ∀ t : Fin cfg0.N, win0_1.index t = ![t.val, 0, 0] := (by decide +kernel : ∀ t : Fin grid0.N, _)

theorem blk1 (t : Fin cfg0.N) (i : Fin 16) (r : Fin 128) (q : Fin 64) :
    (iblk m c 1 t : Vec Ideal S16x128x64 .f32) (ix3 i r q) = (V m c main_arg1 : Vec Ideal S64x128x64 .f32) (ix3 (brow t i) r q) := by
  blk_simp [iblk]
  refine congrArg (V m c main_arg1) ?_
  unfold brow
  blk_ext [index1]

theorem index3 : ∀ t : Fin cfg0.N, win0_3.index t = ![t.val, 0, 0] := (by decide +kernel : ∀ t : Fin grid0.N, _)

theorem blk3 (t : Fin cfg0.N) (i : Fin 16) (r : Fin 128) (q : Fin 128) :
    (iblk m c 3 t : Vec Ideal S16x128x128 .f32) (ix3 i r q) = (V m c main_call0_v2 : Vec Ideal S64x128x128 .f32) (ix3 (brow t i) r q) := by
  blk_simp [iblk]
  refine congrArg (V m c main_call0_v2) ?_
  unfold brow
  blk_ext [index3]

theorem index4 : ∀ t : Fin cfg0.N, win0_4.index t = ![t.val, 0, 0] := (by decide +kernel : ∀ t : Fin grid0.N, _)

theorem blk4 (t : Fin cfg0.N) (i : Fin 16) (r : Fin 128) (q : Fin 128) :
    (iblk m c 4 t : Vec Ideal S16x128x128 .f32) (ix3 i r q) = (V m c main_call0_v5 : Vec Ideal S64x128x128 .f32) (ix3 (brow t i) r q) := by
  blk_simp [iblk]
  refine congrArg (V m c main_call0_v5) ?_
  unfold brow
  blk_ext [index4]

theorem index5 : ∀ t : Fin cfg0.N, win0_5.index t = ![t.val, 0, 0] := (by decide +kernel : ∀ t : Fin grid0.N, _)

theorem blk5 (t : Fin cfg0.N) (i : Fin 16) (r : Fin 1) (q : Fin 128) :
    (iblk m c 5 t : Vec Ideal S16x1x128 .f32) (ix3 i r q) = (V m c main_call0_v8 : Vec Ideal S64x1x128 .f32) (ix3 (brow t i) r q) := by
  blk_simp [iblk]
  refine congrArg (V m c main_call0_v8) ?_
  unfold brow
  blk_ext [index5]

theorem index6 : ∀ t : Fin cfg0.N, win0_6.index t = ![t.val, 0, 0] := (by decide +kernel : ∀ t : Fin grid0.N, _)

theorem blk6 (t : Fin cfg0.N) (i : Fin 16) (r : Fin 1) (q : Fin 128) :
    (iblk m c 6 t : Vec Ideal S16x1x128 .f32) (ix3 i r q) = (V m c main_call0_v11 : Vec Ideal S64x1x128 .f32) (ix3 (brow t i) r q) := by
  blk_simp [iblk]
  refine congrArg (V m c main_call0_v11) ?_
  unfold brow
  blk_ext [index6]

theorem index2 : ∀ t : Fin cfg0.N, win0_2.index t = ![0, 0] := (by decide +kernel : ∀ t : Fin grid0.N, _)

theorem blk2 (t : Fin cfg0.N) (r : Fin 64) (q : Fin 64) :
    (iblk m c 2 t : Vec Ideal S64x64 .f32) (ix2 r q) = (V m c main_arg4 : Vec Ideal S64x64 .f32) (ix2 r q) := by
  blk_simp [iblk]
  refine congrArg (V m c main_arg4) ?_
  blk_ext [index2]

theorem index7 : ∀ t : Fin cfg0.N, win0_7.index t = ![0, 0] := (by decide +kernel : ∀ t : Fin grid0.N, _)

theorem blk7 (t : Fin cfg0.N) (r : Fin 1) (q : Fin 128) :
    (iblk m c 7 t : Vec Ideal S1x128 .f32) (ix2 r q) = (V m c main_call0_v13 : Vec Ideal S1x128 .f32) (ix2 r q) := by
  blk_simp [iblk]
  refine congrArg (V m c main_call0_v13) ?_
  blk_ext [index7]

/-! ### The candidates of a block's row, from the argument arrays -/

theorem score_eq (t : Fin cfg0.N) (i : Fin 16) (r q : Fin 128) :
    scoreK (iblk m c 0 t) (iblk m c 1 t) (iblk m c 2 t) i r q
      = Spec.score (pos m c) (mage m c) (wts m c) (brow t i) r q := by
  unfold scoreK Spec.score pos mage wts
  refine Finset.sum_congr rfl fun y _ => ?_
  have e1 := blk1 m c t i q y
  rw [V_main_arg1] at e1
  refine congrArg₂ (· * ·) (Finset.sum_congr rfl fun z _ => ?_) e1
  have e0 := blk0 m c t i r z
  have e2 := blk2 m c t z y
  rw [V_main_arg0] at e0
  rw [V_main_arg4] at e2
  exact congrArg₂ (· * ·) e0 e2

theorem lgRow_eq (t : Fin cfg0.N) (i : Fin 16) :
    lgRow (iblk m c 0 t) (iblk m c 1 t) (iblk m c 2 t) (iblk m c 3 t) (iblk m c 5 t) (iblk m c 7 t) i
      = Spec.lg (pos m c) (mage m c) (wts m c) (mask m c) (dum m c) (brow t i) := by
  funext n
  unfold lgRow Spec.lg
  by_cases h : n.val < 16256
  · rw [dif_pos h, dif_pos h, blk3, mask_apply m c _ n h, score_eq]
  · rw [dif_neg h, dif_neg h, blk5, dmask_apply m c _ n h, blk7, dum_apply m c n h]

theorem kyRow_eq (t : Fin cfg0.N) (i : Fin 16) :
    kyRow (iblk m c 0 t) (iblk m c 1 t) (iblk m c 2 t) (iblk m c 3 t) (iblk m c 4 t) (iblk m c 5 t) (iblk m c 6 t)
        (iblk m c 7 t) i
      = Spec.ky (pos m c) (mage m c) (wts m c) (mask m c) (dum m c) (gum m c) (brow t i) := by
  funext n
  unfold kyRow Spec.ky
  rw [lgRow_eq]
  by_cases h : n.val < 16256
  · rw [dif_pos h, blk4, gum_apply m c _ n h]
  · rw [dif_neg h, blk6, dgum_apply m c _ n h]

end Cert.Proof.KernelValue
-- ==== Proof.Value.KernelFinal.lean ====
/-
The kernel's three results, entry by entry: the arrays its blocks fill, then the host's slices of them.
-/
module

public import proofs.«01_k».proof.Proof.Value.KernelHost

@[expose] public section

set_option maxRecDepth 16384

noncomputable section

namespace Cert.Proof.KernelValue

open Idealize.ShloMosaic Idealize.ShloMosaic.TcCoe Cert.KernelIdeal Cert.KernelIdeal.Gen Cert.Proof.KernelIdeal
open Idealize.SL.Sem
open Cert.Proof.Rows

variable (m : (l : Loc nD τ sig) → Buf (Elt Ideal) l) (ρ : Dev nD → PrngReg) (c : Dev nD)

/-- The point whose block holds batch row `b`. -/
def ptOf (b : Fin 64) : Fin cfg0.N := ⟨b.val / 16, by show b.val / 16 < 4; omega⟩

/-- The row of that block that batch row `b` is. -/
def inRow (b : Fin 64) : Fin 16 := ⟨b.val % 16, Nat.mod_lt _ (by norm_num)⟩

theorem brow_pt (b : Fin 64) : brow (ptOf b) (inRow b) = b := by
  apply Fin.ext
  simp only [brow, ptOf, inRow]
  omega

theorem pt_brow (t : Fin cfg0.N) (i : Fin 16) : ptOf (brow t i) = t := by
  apply Fin.ext
  simp only [brow, ptOf]
  omega

theorem in_brow (t : Fin cfg0.N) (i : Fin 16) : inRow (brow t i) = i := by
  apply Fin.ext
  simp only [brow, inRow]
  omega

/-- The array of sampled weights as the kernel leaves it. -/
def arr8 : Vec Ideal S64x128x128 .f32 := fun j =>
  out0_8 (iblk m c 0 (ptOf (j 0))) (iblk m c 1 (ptOf (j 0))) (iblk m c 2 (ptOf (j 0))) (iblk m c 3 (ptOf (j 0)))
    (iblk m c 4 (ptOf (j 0))) (iblk m c 5 (ptOf (j 0))) (iblk m c 6 (ptOf (j 0))) (iblk m c 7 (ptOf (j 0)))
    (ix3 (inRow (j 0)) (j 1) (j 2))

/-- The adjacency array as the kernel leaves it. -/
def arr9 : Vec Ideal S64x128x128 .f32 := fun j =>
  out0_9 (iblk m c 0 (ptOf (j 0))) (iblk m c 1 (ptOf (j 0))) (iblk m c 2 (ptOf (j 0))) (iblk m c 3 (ptOf (j 0)))
    (iblk m c 4 (ptOf (j 0))) (iblk m c 5 (ptOf (j 0))) (iblk m c 6 (ptOf (j 0))) (iblk m c 7 (ptOf (j 0)))
    (ix3 (inRow (j 0)) (j 1) (j 2))

/-- The array of log-probabilities as the kernel leaves it. -/
def arr10 : Vec Ideal S64x128 .f32 := fun j =>
  out0_10 (iblk m c 0 (ptOf (j 0))) (iblk m c 1 (ptOf (j 0))) (iblk m c 2 (ptOf (j 0))) (iblk m c 3 (ptOf (j 0)))
    (iblk m c 4 (ptOf (j 0))) (iblk m c 5 (ptOf (j 0))) (iblk m c 6 (ptOf (j 0))) (iblk m c 7 (ptOf (j 0)))
    (ix2 (inRow (j 0)) (j 1))

theorem index8 : ∀ t : Fin cfg0.N, win0_8.index t = ![t.val, 0, 0] := (by decide +kernel : ∀ t : Fin grid0.N, _)
theorem index9 : ∀ t : Fin cfg0.N, win0_9.index t = ![t.val, 0, 0] := (by decide +kernel : ∀ t : Fin grid0.N, _)
theorem index10 : ∀ t : Fin cfg0.N, win0_10.index t = ![t.val, 0] := (by decide +kernel : ∀ t : Fin grid0.N, _)

theorem final8 : (dats m 0 c).arrAt 8 cfg0.N = arr8 m c := by
  refine (dats m 0 c).arrAt_eq_of_covers 8 _ (by decide +kernel) fun t hf y => ?_
  blk_simp
  rw [after0_8]
  idx_vars y
  have e : (win0_8.blk t).view.emb (ix3 y0 y1 y2) = ix3 (brow t y0) y1 y2 := by
    unfold brow
    blk_ext [index8]
  rw [e]
  show _ = out0_8 (iblk m c 0 (ptOf (brow t y0))) (iblk m c 1 (ptOf (brow t y0))) (iblk m c 2 (ptOf (brow t y0)))
    (iblk m c 3 (ptOf (brow t y0))) (iblk m c 4 (ptOf (brow t y0))) (iblk m c 5 (ptOf (brow t y0)))
    (iblk m c 6 (ptOf (brow t y0))) (iblk m c 7 (ptOf (brow t y0))) (ix3 (inRow (brow t y0)) y1 y2)
  rw [pt_brow, in_brow]

theorem final9 : (dats m 0 c).arrAt 9 cfg0.N = arr9 m c := by
  refine (dats m 0 c).arrAt_eq_of_covers 9 _ (by decide +kernel) fun t hf y => ?_
  blk_simp
  rw [after0_9]
  idx_vars y
  have e : (win0_9.blk t).view.emb (ix3 y0 y1 y2) = ix3 (brow t y0) y1 y2 := by
    unfold brow
    blk_ext [index9]
  rw [e]
  show _ = out0_9 (iblk m c 0 (ptOf (brow t y0))) (iblk m c 1 (ptOf (brow t y0))) (iblk m c 2 (ptOf (brow t y0)))
    (iblk m c 3 (ptOf (brow t y0))) (iblk m c 4 (ptOf (brow t y0))) (iblk m c 5 (ptOf (brow t y0)))
    (iblk m c 6 (ptOf (brow t y0))) (iblk m c 7 (ptOf (brow t y0))) (ix3 (inRow (brow t y0)) y1 y2)
  rw [pt_brow, in_brow]

theorem final10 : (dats m 0 c).arrAt 10 cfg0.N = arr10 m c := by
  refine (dats m 0 c).arrAt_eq_of_covers 10 _ (by decide +kernel) fun t hf y => ?_
  blk_simp
  rw [after0_10]
  idx_vars y
  have e : (win0_10.blk t).view.emb (ix2 y0 y1) = ix2 (brow t y0) y1 := by
    unfold brow
    blk_ext [index10]
  rw [e]
  show _ = out0_10 (iblk m c 0 (ptOf (brow t y0))) (iblk m c 1 (ptOf (brow t y0))) (iblk m c 2 (ptOf (brow t y0)))
    (iblk m c 3 (ptOf (brow t y0))) (iblk m c 4 (ptOf (brow t y0))) (iblk m c 5 (ptOf (brow t y0)))
    (iblk m c 6 (ptOf (brow t y0))) (iblk m c 7 (ptOf (brow t y0))) (ix2 (inRow (brow t y0)) y1)
  rw [pt_brow, in_brow]

/-- The three results. -/
def res0 : Vec Ideal S64x16256 .f32 := shapeCast S64x16256 (extractStridedSlice S64x128x127 ![0, 0, 0] (arr8 m c)
  slices_S64x128x128_S64x128x127_0_0_0) shapeCasts_S64x128x127_S64x16256
def res2 : Vec Ideal S64 .f32 := shapeCast S64 (extractStridedSlice S64x1 ![0, 0] (arr10 m c)
  slices_S64x128_S64x1_0_0) shapeCasts_S64x1_S64

theorem arrRef_inj : Function.Injective (Pipeline.arrRef spec0) := by decide

theorem tail0 : (Pipeline.afterTail₀ cfgs (dats m) 0 (V0 m) [hostOps1] c main_v0_0 : Vec Ideal S64x16256 .f32) = res0 m c := by
  have e := Pipeline.withArrays_arr (Val := Elt Ideal) spec0 arrRef_inj c (V0 m c) (fun w => (dats m 0 c).arrAt w cfg0.N) 8
  have e' : Pipeline.withArrays spec0 c (V0 m c) (fun w => (dats m 0 c).arrAt w cfg0.N) (Proc.devRef .tc main_call0_v14_0)
      = arr8 m c := e.trans (final8 m c)
  unfold Pipeline.afterTail₀ res0
  rw [← e']
  generalize Pipeline.withArrays spec0 c (V0 m c) (fun w => (dats m 0 c).arrAt w cfg0.N) = X
  simp only [hostOps1, List.flatten_cons, List.flatten_nil, List.append_nil]
  after_reads_simp
  rfl

theorem tail2 : (Pipeline.afterTail₀ cfgs (dats m) 0 (V0 m) [hostOps1] c main_v0_2 : Vec Ideal S64 .f32) = res2 m c := by
  have e := Pipeline.withArrays_arr (Val := Elt Ideal) spec0 arrRef_inj c (V0 m c) (fun w => (dats m 0 c).arrAt w cfg0.N) 10
  have e' : Pipeline.withArrays spec0 c (V0 m c) (fun w => (dats m 0 c).arrAt w cfg0.N) (Proc.devRef .tc main_call0_v14_2)
      = arr10 m c := e.trans (final10 m c)
  unfold Pipeline.afterTail₀ res2
  rw [← e']
  generalize Pipeline.withArrays spec0 c (V0 m c) (fun w => (dats m 0 c).arrAt w cfg0.N) = X
  simp only [hostOps1, List.flatten_cons, List.flatten_nil, List.append_nil]
  after_reads_simp
  rfl

/-- The run: the three results and the unchanged arguments. -/
theorem run : θ_run defs (onTc (τ := τ) (main (F := Ideal))) ⟨m, fun _ => 0, ρ⟩ (fun r => ∀ c : Dev nD,
      (r.2.mem ((c.tc : Thread nD τ).loc main_v0_0) = res0 m c
      ∧ r.2.mem ((c.tc : Thread nD τ).loc main_v0_1) = arr9 m c
      ∧ r.2.mem ((c.tc : Thread nD τ).loc main_v0_2) = res2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  have h1 := KernelIdeal.run_main m ρ
  have h2 := KernelIdeal.unchanged m ρ
  refine (θ_run defs _ _).mono (fun r h c => ⟨⟨?_, ?_, ?_⟩, h.2 c⟩) (θ_run_and h1 h2)
  · exact ((h.1 c).2 main_v0_0 (Pipeline.mem_restRefs_of main_v0_0 (by decide) (by decide))).trans (tail0 m c)
  · exact ((h.1 c).1 9).trans (final9 m c)
  · exact ((h.1 c).2 main_v0_2 (Pipeline.mem_restRefs_of main_v0_2 (by decide) (by decide))).trans (tail2 m c)

/-! ### The results, entry by entry -/

section Entries

variable (b : Fin 64) (f : Fin L → ℝ) (p : ℕ → Fin L)

/-- The row's logits and keys. -/
abbrev lgM (b : Fin 64) : Fin L → EReal := Spec.lg (pos m c) (mage m c) (wts m c) (mask m c) (dum m c) b
abbrev kyM (b : Fin 64) : Fin L → EReal := Spec.ky (pos m c) (mage m c) (wts m c) (mask m c) (dum m c) (gum m c) b

theorem res0_apply (hk : Real' (kyM m c b)) (hp : Picks (kyM m c b) p) (n : Fin 16256) :
    res0 m c (ix2 b n) = (samp (kyM m c b) 16).2.2 ⟨n.val, by have := n.isLt; simp only [L]; omega⟩ := by
  have e : kyM m c b = _ := (congrArg (kyM m c) (brow_pt b)).symm.trans (kyRow_eq m c (ptOf b) (inRow b)).symm
  rw [e] at hk hp ⊢
  have key := out8_apply _ _ _ _ _ _ _ _ _ p hk hp ⟨n.val, by have := n.isLt; simp only [L]; omega⟩ n.isLt
  rw [← key]
  unfold res0
  generalize hx : arr8 m c = x
  pointwise
  subst hx
  rfl

theorem arr9_apply (hk : Real' (kyM m c b)) (hp : Picks (kyM m c b) p) (r q : Fin 128) :
    arr9 m c (ix3 b r q) = if q.val = r.val then 0 else (samp (kyM m c b) 16).2.2 (pair r q) := by
  have e : kyM m c b = _ := (congrArg (kyM m c) (brow_pt b)).symm.trans (kyRow_eq m c (ptOf b) (inRow b)).symm
  rw [e] at hk hp ⊢
  exact out9_apply _ _ _ _ _ _ _ _ _ p hk hp r q

theorem res2_apply (hf : lgM m c b = fun n => (f n : EReal)) (hk : Real' (kyM m c b)) (hp : Picks (kyM m c b) p) :
    res2 m c (ix1 b) = ((logpFrom f p 0 16 : ℝ) : EReal) := by
  have e : kyM m c b = _ := (congrArg (kyM m c) (brow_pt b)).symm.trans (kyRow_eq m c (ptOf b) (inRow b)).symm
  have e' : lgM m c b = _ := (congrArg (lgM m c) (brow_pt b)).symm.trans (lgRow_eq m c (ptOf b) (inRow b)).symm
  rw [e] at hk hp
  rw [e'] at hf
  have key := out10_apply _ _ _ _ _ _ _ _ _ f p hf hk hp 0
  rw [← key]
  unfold res2
  generalize hx : arr10 m c = x
  pointwise
  subst hx
  rfl

end Entries

end Cert.Proof.KernelValue
-- ==== Proof.Math.Order.lean ====
/-
A stable sort by decreasing key, read as an order of drawing: equal keys keep the order of their positions, so the first
sixteen positions it lists are the sixteen candidates drawn one after the other.
-/
module

public import proofs.«01_k».proof.Proof.Math.Rows
public import Idealize.ShloMosaic.Lib.SortFacts

@[expose] public section

set_option maxRecDepth 16384

noncomputable section

namespace Cert.Proof.Rows

open Idealize.ShloMosaic

section Stable
variable {n : ℕ} (key : Fin n → EReal)

/-- `a` is drawn before `b`: a greater key, or the same key at an earlier position. -/
def Ahead (a b : Fin n) : Prop := key b < key a ∨ (key b = key a ∧ a < b)

theorem Ahead.trans {a b c : Fin n} (h : Ahead key a b) (h' : Ahead key b c) : Ahead key a c := by
  rcases h with h | ⟨h, ha⟩ <;> rcases h' with h' | ⟨h', hb⟩
  · exact .inl (h'.trans h)
  · exact .inl (h' ▸ h)
  · exact .inl (h ▸ h')
  · exact .inr ⟨h'.trans h, ha.trans hb⟩

theorem ahead_insert (R : Fin n → Fin n → Bool) (hR : ∀ a b, R a b = true ↔ key b < key a) (a : Fin n) (l : List (Fin n))
    (hl : l.Pairwise (Ahead key)) (ha : ∀ b ∈ l, a < b) : (insertBefore R a l).Pairwise (Ahead key) := by
  induction l with
  | nil => exact List.pairwise_singleton _ _
  | cons b l ih =>
    rw [List.pairwise_cons] at hl
    unfold insertBefore
    split
    · next h =>
      rw [List.pairwise_cons]
      refine ⟨fun c hc => ?_, ih hl.2 fun c hc => ha c (List.mem_cons_of_mem b hc)⟩
      rcases List.mem_cons.mp ((perm_insertBefore R a l).mem_iff.mp hc) with rfl | hc
      · exact .inl ((hR _ _).1 h)
      · exact hl.1 c hc
    · next h =>
      have hab : Ahead key a b := by
        have hle : ¬ key a < key b := fun q => h ((hR _ _).2 q)
        rcases lt_or_eq_of_le (not_lt.mp hle) with q | q
        · exact .inl q
        · exact .inr ⟨q, ha b List.mem_cons_self⟩
      rw [List.pairwise_cons, List.pairwise_cons]
      refine ⟨fun c hc => ?_, hl⟩
      rcases List.mem_cons.mp hc with rfl | hc
      · exact hab
      · exact hab.trans key (hl.1 c hc)

theorem ahead_stableSort (R : Fin n → Fin n → Bool) (hR : ∀ a b, R a b = true ↔ key b < key a) (l : List (Fin n))
    (hl : l.Pairwise (· < ·)) : (stableSort R l).Pairwise (Ahead key) := by
  induction l with
  | nil => exact List.Pairwise.nil
  | cons a l ih =>
    rw [List.pairwise_cons] at hl
    unfold stableSort
    exact ahead_insert key R hR a _ (ih hl.2) fun b hb => hl.1 b ((perm_stableSort R l).mem_iff.mp hb)

/-- Of two positions a stable sort lists, the one listed first is the one drawn first. -/
theorem ahead_sortedFrom (R : Fin n → Fin n → Bool) (hR : ∀ a b, R a b = true ↔ key b < key a) (i j : Fin n) (hij : i < j) :
    Ahead key (sortedFrom R i) (sortedFrom R j) := by
  have hp := List.pairwise_iff_get.mp (ahead_stableSort key R hR (List.finRange n) (List.pairwise_lt_finRange n))
  unfold sortedFrom
  exact hp _ _ hij

end Stable

/-- The candidates a stable sort by decreasing key lists first are drawn in that order. -/
theorem picks_sortedFrom (key : Fin L → EReal) (R : Fin L → Fin L → Bool) (hR : ∀ a b, R a b = true ↔ key b < key a) :
    Picks key fun i => sortedFrom R ⟨i % L, Nat.mod_lt _ (by decide)⟩ where
  fresh i hi j hj h := by
    have h1 := congrArg Fin.val (sortedFrom_injective R h)
    have hL : L = 16272 := rfl
    simp only [hL] at h1
    omega
  best i hi n hn := by
    obtain ⟨k, rfl⟩ := sortedFrom_surjective R n
    have hk := k.isLt
    have hL : L = 16272 := rfl
    rcases lt_trichotomy k.val i with h | h | h
    · exact .inl ⟨k.val, h, congrArg (sortedFrom R) (Fin.ext (Nat.mod_eq_of_lt hk))⟩
    · exact absurd (congrArg (sortedFrom R) (Fin.ext (by show k.val = i % L; rw [Nat.mod_eq_of_lt (by omega)]; exact h))) hn
    · exact .inr (ahead_sortedFrom key R hR _ _ (by
        show i % L < k.val
        rw [Nat.mod_eq_of_lt (by omega)]
        exact h))

end Cert.Proof.Rows
-- ==== Proof.Value.RefIndexed.lean ====
/-
The reference's two gathers and two scatters, each read at one element where the index words are known numbers in range.
-/
module

public import proofs.«01_k».proof.Proof.Run.ReferenceIdeal
public import Idealize.ShloMosaic.Lib.Routing.OpsPair
public import Idealize.ShloMosaic.Lib.Routing.OpsSet
public import Idealize.ShloMosaic.Lib.Pointwise

@[expose] public section

set_option maxRecDepth 16384

noncomputable section

namespace Cert.Proof.ReferenceValue

open Idealize.ShloMosaic Cert.ReferenceIdeal

/-- The gather over pairs of grid coordinates: at `(b, n)` the operand at the pair the `n`-th words name. -/
theorem gatherPairs_apply (x : S64x128x128.Idx → EReal) (idx : IVec S16256x2 32) (b : Fin 64) (n : Fin 16256)
    (r c : Fin 128) (h0 : idx (ix2 n (0 : Fin 2)) = BitVec.ofNat 32 r.val) (h1 : idx (ix2 n (1 : Fin 2)) = BitVec.ofNat 32 c.val) :
    Host.gather gather_S64x128x128_S16256x2_S64x16256_0_12_n_n_12_1_6411 x idx (ix2 b n) = x (ix3 b r c) := by
  unfold Host.gather
  refine congrArg x (funext fun a => Fin.ext ?_)
  have hr := r.isLt
  have hc := c.isLt
  set d := gather_S64x128x128_S16256x2_S64x16256_0_12_n_n_12_1_6411 with hd
  show d.start (ix2 b n) idx a + d.batchCoord (ix2 b n) a + d.offCoord (ix2 b n) a = _
  have h012 : a = 0 ∨ a = 1 ∨ a = 2 := by
    match a with
    | ⟨0, _⟩ => exact .inl rfl
    | ⟨1, _⟩ => exact .inr (.inl rfl)
    | ⟨2, _⟩ => exact .inr (.inr rfl)
  rcases h012 with rfl | rfl | rfl
  · rw [GatherDims.batchCoord_eq_zero _ _ _ List.not_mem_nil]
    unfold GatherDims.start GatherDims.offCoord
    rw [dif_neg (by decide), dif_pos (by decide)]
    show 0 + 0 + b.val = b.val
    omega
  · rw [GatherDims.batchCoord_eq_zero _ _ _ List.not_mem_nil]
    unfold GatherDims.start GatherDims.offCoord
    rw [dif_pos (by decide), dif_neg (by decide)]
    have e : d.siIdx (ix2 b n) ⟨d.startIndexMap.idxOf (1 : Fin 3), List.idxOf_lt_length_iff.2 (by decide)⟩
        = ix2 n (0 : Fin 2) := by
      funext q
      match q with
      | ⟨0, _⟩ => rfl
      | ⟨1, _⟩ => rfl
    refine (congrArg (fun w : BitVec 32 => min w.toInt.toNat (128 - 1) + 0 + 0) ((congrArg idx e).trans h0)).trans ?_
    simp only [StableHlo.Predicate.toInt_ofNat_small r.val (by omega)]
    show min ((r.val : ℤ).toNat) (128 - 1) + 0 + 0 = r.val
    omega
  · rw [GatherDims.batchCoord_eq_zero _ _ _ List.not_mem_nil]
    unfold GatherDims.start GatherDims.offCoord
    rw [dif_pos (by decide), dif_neg (by decide)]
    have e : d.siIdx (ix2 b n) ⟨d.startIndexMap.idxOf (2 : Fin 3), List.idxOf_lt_length_iff.2 (by decide)⟩
        = ix2 n (1 : Fin 2) := by
      funext q
      match q with
      | ⟨0, _⟩ => rfl
      | ⟨1, _⟩ => rfl
    refine (congrArg (fun w : BitVec 32 => min w.toInt.toNat (128 - 1) + 0 + 0) ((congrArg idx e).trans h1)).trans ?_
    simp only [StableHlo.Predicate.toInt_ofNat_small c.val (by omega)]
    show min ((c.val : ℤ).toNat) (128 - 1) + 0 + 0 = c.val
    omega

/-- The gather of one entry per row: row `b`'s entry at the place its word names. -/
theorem gatherRow_apply (x : S64x16272.Idx → EReal) (idx : IVec S64x1x1 32) (b : Fin 64) (n : Fin 16272)
    (h : idx (ix3 b (0 : Fin 1) (0 : Fin 1)) = BitVec.ofNat 32 n.val) :
    Host.gather gather_S64x16272_S64x1x1_S64x1_n_1_0_0_1_2_11 x idx (ix2 b (0 : Fin 1)) = x (ix2 b n) := by
  unfold Host.gather
  refine congrArg x (funext fun a => Fin.ext ?_)
  have hn := n.isLt
  set d := gather_S64x16272_S64x1x1_S64x1_n_1_0_0_1_2_11 with hd
  show d.start (ix2 b 0) idx a + d.batchCoord (ix2 b 0) a + d.offCoord (ix2 b 0) a = _
  have h01 : a = 0 ∨ a = 1 := by
    match a with
    | ⟨0, _⟩ => exact .inl rfl
    | ⟨1, _⟩ => exact .inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (by decide)]
    show 0 + b.val + 0 = b.val
    omega
  · rw [GatherDims.batchCoord_eq_zero _ _ _ (by decide),
      GatherDims.offCoord_eq_zero _ _ _ (fun h => ((GatherDims.mem_sKept _ _).mp h).1 (List.mem_singleton.mpr rfl))]
    unfold GatherDims.start
    rw [dif_pos (by decide)]
    have e : d.siIdx (ix2 b (0 : Fin 1)) ⟨d.startIndexMap.idxOf (1 : Fin 2), List.idxOf_lt_length_iff.2 (by decide)⟩
        = ix3 b (0 : Fin 1) (0 : Fin 1) := by
      funext q
      match q with
      | ⟨0, _⟩ => rfl
      | ⟨1, _⟩ => rfl
      | ⟨2, _⟩ => rfl
    refine (congrArg (fun w : BitVec 32 => min w.toInt.toNat (16272 - 1) + 0 + 0) ((congrArg idx e).trans h)).trans ?_
    simp only [StableHlo.Predicate.toInt_ofNat_small n.val (by omega)]
    show min ((n.val : ℤ).toNat) (16272 - 1) + 0 + 0 = n.val
    omega

/-- The scatter of one entry per row lands, for row `b`, on the entry its two words name. -/
theorem scatterRow_lands (idx : IVec S64x2 32) (p : Fin 64 → Fin 16272)
    (h0 : ∀ b, idx (ix2 b (0 : Fin 2)) = BitVec.ofNat 32 b.val)
    (h1 : ∀ b, idx (ix2 b (1 : Fin 2)) = BitVec.ofNat 32 (p b).val) (b b' : Fin 64) (n : Fin 16272) :
    scatter_S64x16272_S64x2_S64_n_01_01_1.resultIdx? (ix1 b') idx = some (ix2 b n) ↔ b' = b ∧ p b' = n := by
  set d := scatter_S64x16272_S64x2_S64_n_01_01_1 with hd
  have hb' := b'.isLt
  have hp := (p b').isLt
  have e0 : d.siIdx (ix1 b') ⟨d.scatterDimsToOperandDims.idxOf (0 : Fin 2), List.idxOf_lt_length_iff.2 (by decide)⟩
      = ix2 b' (0 : Fin 2) := by
    funext q
    match q with
    | ⟨0, _⟩ => rfl
    | ⟨1, _⟩ => rfl
  have e1 : d.siIdx (ix1 b') ⟨d.scatterDimsToOperandDims.idxOf (1 : Fin 2), List.idxOf_lt_length_iff.2 (by decide)⟩
      = ix2 b' (1 : Fin 2) := by
    funext q
    match q with
    | ⟨0, _⟩ => rfl
    | ⟨1, _⟩ => rfl
  have s0 : d.start (ix1 b') idx (0 : Fin 2) = (b'.val : ℤ) := by
    unfold ScatterDims.start
    rw [dif_pos (by decide), e0, h0, StableHlo.Predicate.toInt_ofNat_small _ (by omega)]
  have s1 : d.start (ix1 b') idx (1 : Fin 2) = ((p b').val : ℤ) := by
    unfold ScatterDims.start
    rw [dif_pos (by decide), e1, h1, StableHlo.Predicate.toInt_ofNat_small _ (by omega)]
  have w : ∀ a : Fin 2, d.window (ix1 b') a = 0 := fun a => by
    unfold ScatterDims.window
    rw [dif_neg (by revert a; decide)]
  refine (Routing.resultIdx?_ix2 d (ix1 b') idx b n).trans ?_
  rw [s0, s1, w, w]
  constructor
  · rintro ⟨h, h'⟩
    exact ⟨Fin.ext (by omega), Fin.ext (by omega)⟩
  · rintro ⟨rfl, rfl⟩
    exact ⟨by simp, by simp⟩

/-- That scatter, its body returning the update: the update where it lands, the operand elsewhere. -/
theorem scatterRow_apply (x : S64x16272.Idx → EReal) (idx : IVec S64x2 32) (upd : S64.Idx → EReal) (p : Fin 64 → Fin 16272)
    (h0 : ∀ b, idx (ix2 b (0 : Fin 2)) = BitVec.ofNat 32 b.val)
    (h1 : ∀ b, idx (ix2 b (1 : Fin 2)) = BitVec.ofNat 32 (p b).val) (b : Fin 64) (n : Fin 16272) :
    Host.scatter scatter_S64x16272_S64x2_S64_n_01_01_1 (fun _ b => b) x idx upd (ix2 b n)
      = if p b = n then upd (ix1 b) else x (ix2 b n) := by
  by_cases h : p b = n
  · rw [if_pos h]
    refine Routing.scatter_set_hit _ x idx upd _ _ (fun k hk => ?_) (ix1 b) ((scatterRow_lands idx p h0 h1 b b n).2 ⟨rfl, h⟩)
    obtain ⟨b', rfl⟩ : ∃ b' : Fin 64, k = ix1 b' := ⟨k 0, funext fun q => by obtain rfl : q = 0 := Subsingleton.elim _ _; rfl⟩
    rw [((scatterRow_lands idx p h0 h1 b b' n).1 hk).1]
  · rw [if_neg h]
    refine Routing.scatter_set_miss _ x idx upd _ fun k hk => ?_
    obtain ⟨b', rfl⟩ : ∃ b' : Fin 64, k = ix1 b' := ⟨k 0, funext fun q => by obtain rfl : q = 0 := Subsingleton.elim _ _; rfl⟩
    obtain ⟨rfl, h'⟩ := (scatterRow_lands idx p h0 h1 b b' n).1 hk
    exact h h'

/-- The scatter over pairs of grid coordinates lands, from `(b, n)`, on the pair the `n`-th words name. -/
theorem scatterPairs_lands (idx : IVec S16256x2 32) (r c : Fin 16256 → Fin 128)
    (h0 : ∀ n, idx (ix2 n (0 : Fin 2)) = BitVec.ofNat 32 (r n).val)
    (h1 : ∀ n, idx (ix2 n (1 : Fin 2)) = BitVec.ofNat 32 (c n).val) (b' : Fin 64) (n : Fin 16256) (b : Fin 64) (u v : Fin 128) :
    scatter_S64x128x128_S16256x2_S64x16256_0_12_12_1.resultIdx? (ix2 b' n) idx = some (ix3 b u v)
      ↔ b' = b ∧ r n = u ∧ c n = v := by
  set d := scatter_S64x128x128_S16256x2_S64x16256_0_12_12_1 with hd
  have hr := (r n).isLt
  have hc := (c n).isLt
  have e1 : d.siIdx (ix2 b' n) ⟨d.scatterDimsToOperandDims.idxOf (1 : Fin 3), List.idxOf_lt_length_iff.2 (by decide)⟩
      = ix2 n (0 : Fin 2) := by
    funext q
    match q with
    | ⟨0, _⟩ => rfl
    | ⟨1, _⟩ => rfl
  have e2 : d.siIdx (ix2 b' n) ⟨d.scatterDimsToOperandDims.idxOf (2 : Fin 3), List.idxOf_lt_length_iff.2 (by decide)⟩
      = ix2 n (1 : Fin 2) := by
    funext q
    match q with
    | ⟨0, _⟩ => rfl
    | ⟨1, _⟩ => rfl
  have s0 : d.start (ix2 b' n) idx (0 : Fin 3) = 0 := by
    unfold ScatterDims.start
    rw [dif_neg (by decide)]
  have s1 : d.start (ix2 b' n) idx (1 : Fin 3) = ((r n).val : ℤ) := by
    unfold ScatterDims.start
    rw [dif_pos (by decide), e1, h0, StableHlo.Predicate.toInt_ofNat_small _ (by omega)]
  have s2 : d.start (ix2 b' n) idx (2 : Fin 3) = ((c n).val : ℤ) := by
    unfold ScatterDims.start
    rw [dif_pos (by decide), e2, h1, StableHlo.Predicate.toInt_ofNat_small _ (by omega)]
  have w0 : d.window (ix2 b' n) (0 : Fin 3) = b'.val := by
    unfold ScatterDims.window
    rw [dif_pos (by decide)]
    rfl
  have w1 : d.window (ix2 b' n) (1 : Fin 3) = 0 := by
    unfold ScatterDims.window
    rw [dif_neg (by decide)]
  have w2 : d.window (ix2 b' n) (2 : Fin 3) = 0 := by
    unfold ScatterDims.window
    rw [dif_neg (by decide)]
  refine (Routing.resultIdx?_eq_some d (ix2 b' n) idx (ix3 b u v)).trans ?_
  constructor
  · intro h
    have a0 := h (0 : Fin 3)
    have a1 := h (1 : Fin 3)
    have a2 := h (2 : Fin 3)
    rw [s0, w0] at a0
    rw [s1, w1] at a1
    rw [s2, w2] at a2
    have a0' : (0 : ℤ) + (b'.val : ℤ) = (b.val : ℤ) := a0
    have a1' : ((r n).val : ℤ) + ((0 : ℕ) : ℤ) = (u.val : ℤ) := a1
    have a2' : ((c n).val : ℤ) + ((0 : ℕ) : ℤ) = (v.val : ℤ) := a2
    exact ⟨Fin.ext (by omega), Fin.ext (by omega), Fin.ext (by omega)⟩
  · rintro ⟨rfl, rfl, rfl⟩ a
    match a with
    | ⟨0, _⟩ =>
      refine (congrArg₂ (fun (s : ℤ) (w : ℕ) => s + (w : ℤ)) s0 w0).trans ?_
      show (0 : ℤ) + (b'.val : ℤ) = (b'.val : ℤ)
      omega
    | ⟨1, _⟩ =>
      refine (congrArg₂ (fun (s : ℤ) (w : ℕ) => s + (w : ℤ)) s1 w1).trans ?_
      show ((r n).val : ℤ) + ((0 : ℕ) : ℤ) = ((r n).val : ℤ)
      omega
    | ⟨2, _⟩ =>
      refine (congrArg₂ (fun (s : ℤ) (w : ℕ) => s + (w : ℤ)) s2 w2).trans ?_
      show ((c n).val : ℤ) + ((0 : ℕ) : ℤ) = ((c n).val : ℤ)
      omega

theorem idx2_eq (k : S64x16256.Idx) : ∃ (b : Fin 64) (n : Fin 16256), k = ix2 b n :=
  ⟨k 0, k 1, funext fun q => by match q with | ⟨0, _⟩ => rfl | ⟨1, _⟩ => rfl⟩

/-- That scatter at a pair some candidate lies on, where no two candidates lie on one pair: the candidate's update. -/
theorem scatterPairs_hit (x : S64x128x128.Idx → EReal) (idx : IVec S16256x2 32) (upd : S64x16256.Idx → EReal)
    (r c : Fin 16256 → Fin 128)
    (h0 : ∀ n, idx (ix2 n (0 : Fin 2)) = BitVec.ofNat 32 (r n).val)
    (h1 : ∀ n, idx (ix2 n (1 : Fin 2)) = BitVec.ofNat 32 (c n).val)
    (inj : ∀ n n', r n = r n' → c n = c n' → n = n') (b : Fin 64) (n : Fin 16256) :
    Host.scatter scatter_S64x128x128_S16256x2_S64x16256_0_12_12_1 (fun _ b => b) x idx upd (ix3 b (r n) (c n)) = upd (ix2 b n) := by
  refine Routing.scatter_set_hit _ x idx upd _ _ (fun k hk => ?_) (ix2 b n) ((scatterPairs_lands idx r c h0 h1 b n b _ _).2 ⟨rfl, rfl, rfl⟩)
  obtain ⟨b', n', rfl⟩ := idx2_eq k
  obtain ⟨rfl, hr, hc⟩ := (scatterPairs_lands idx r c h0 h1 b' n' b _ _).1 hk
  rw [inj n' n hr hc]

/-- That scatter at a pair no candidate lies on: the operand. -/
theorem scatterPairs_miss (x : S64x128x128.Idx → EReal) (idx : IVec S16256x2 32) (upd : S64x16256.Idx → EReal)
    (r c : Fin 16256 → Fin 128)
    (h0 : ∀ n, idx (ix2 n (0 : Fin 2)) = BitVec.ofNat 32 (r n).val)
    (h1 : ∀ n, idx (ix2 n (1 : Fin 2)) = BitVec.ofNat 32 (c n).val)
    (b : Fin 64) (u v : Fin 128) (h : ∀ n, ¬ (r n = u ∧ c n = v)) :
    Host.scatter scatter_S64x128x128_S16256x2_S64x16256_0_12_12_1 (fun _ b => b) x idx upd (ix3 b u v) = x (ix3 b u v) := by
  refine Routing.scatter_set_miss _ x idx upd _ fun k hk => ?_
  obtain ⟨b', n', rfl⟩ := idx2_eq k
  exact h n' ((scatterPairs_lands idx r c h0 h1 b' n' b u v).1 hk).2

end Cert.Proof.ReferenceValue
-- ==== Proof.Value.RefStart.lean ====
/-
The reference before its loop: the pair of grid coordinates of each candidate, the logits, the keys.
-/
module

public import proofs.«01_k».proof.Proof.Value.RefIndexed
public import proofs.«01_k».proof.Proof.Value.Spec
public import Idealize.ShloMosaic.Lib.Routing.Words
public import Idealize.ShloMosaic.Lib.Tactic.WordOmega
public import Idealize.ShloMosaic.Lib.StableHlo.RunRead

@[expose] public section

set_option maxRecDepth 16384

noncomputable section

namespace Cert.Proof.ReferenceValue

open Idealize.ShloMosaic Idealize.ShloMosaic.TcCoe Cert.ReferenceIdeal Cert.ReferenceIdeal.Gen
open Idealize.ShloMosaic.StableHlo Cert.Proof.Rows

/-- One number at every candidate. -/
abbrev every (k : BitVec 32) : IVec S16256 32 := broadcastInDim S16256 ![] bcast_S_S16256 (constantI S_ 32 k)

/-- Each candidate's grid row. -/
def rowW : IVec S16256 32 := Host.divsi (iotaInDim S16256 32 0) (every 127#32)

/-- Each candidate's place in its row, the diagonal still left out. -/
def remW : IVec S16256 32 := subi (iotaInDim S16256 32 0) (muli rowW (every 127#32))

/-- Each candidate's place in its row. -/
def colW : IVec S16256 32 := addi remW (extui 32 (cmpi .sge remW rowW) natLt_1_32)

/-- A word, counted from the end where it is negative. -/
abbrev wrapped (x : IVec S16256 32) : IVec S16256 32 := select (cmpi .slt x (every 0#32)) (addi x (every 128#32)) x

/-- The two words of each candidate, side by side. -/
def pairOf (r c : IVec S16256 32) : IVec S16256x2 32 :=
  concatenate S16256x2 1 [⟨S16256x1, broadcastInDim S16256x1 ![0] bcast_S16256_S16256x1_0 (wrapped r)⟩,
    ⟨S16256x1, broadcastInDim S16256x1 ![0] bcast_S16256_S16256x1_0 (wrapped c)⟩] concatenates_S16256x1_S16256x1_S16256x2_d1

theorem rowW_apply (n : Fin 16256) : rowW (ix1 n) = BitVec.ofNat 32 (n.val / 127) := by
  unfold rowW
  pointwise
  exact Routing.divsi_word ArithUnit.host (by omega) (by decide) (by decide)

theorem remW_apply (n : Fin 16256) : remW (ix1 n) = BitVec.ofNat 32 (n.val % 127) := by
  have h := rowW_apply n
  unfold remW
  pointwise
  rw [h]
  have e : BitVec.ofNat 32 n.val = BitVec.ofNat 32 (n.val % 127 + n.val / 127 * 127) :=
    congrArg (BitVec.ofNat 32) (by omega)
  show BitVec.ofNat 32 n.val - BitVec.ofNat 32 (n.val / 127) * 127#32 = _
  rw [e, BitVec.ofNat_add, BitVec.ofNat_mul]
  exact BitVec.add_sub_cancel _ _

theorem colW_apply (n : Fin 16256) : colW (ix1 n)
    = BitVec.ofNat 32 (if n.val / 127 ≤ n.val % 127 then n.val % 127 + 1 else n.val % 127) := by
  have h := rowW_apply n
  have h' := remW_apply n
  unfold colW
  pointwise
  rw [h, h']
  have e : IntOp.cmpi .sge (BitVec.ofNat 32 (n.val % 127)) (BitVec.ofNat 32 (n.val / 127))
      = BitVec.ofBool (decide (n.val / 127 ≤ n.val % 127)) := by
    show BitVec.ofBool (BitVec.sle (BitVec.ofNat 32 (n.val / 127)) (BitVec.ofNat 32 (n.val % 127))) = _
    refine congrArg BitVec.ofBool ?_
    rw [BitVec.sle_eq_decide, decide_eq_decide, StableHlo.Predicate.toInt_ofNat_small _ (by omega),
      StableHlo.Predicate.toInt_ofNat_small _ (by omega)]
    omega
  rw [e]
  by_cases hd : n.val / 127 ≤ n.val % 127
  · simp only [hd, decide_true, if_true]
    rw [BitVec.ofNat_add]
    rfl
  · simp only [hd, decide_false, if_false]
    exact BitVec.add_zero _

theorem pairOf_row (r c : IVec S16256 32) (n : Fin 16256) (h : (r (ix1 n)).toNat < 2 ^ 31) :
    pairOf r c (ix2 n (0 : Fin 2)) = r (ix1 n) := by
  unfold pairOf
  pointwise
  exact Routing.wrap_of_lt _ _ h

theorem pairOf_col (r c : IVec S16256 32) (n : Fin 16256) (h : (c (ix1 n)).toNat < 2 ^ 31) :
    pairOf r c (ix2 n (1 : Fin 2)) = c (ix1 n) := by
  unfold pairOf
  pointwise
  exact Routing.wrap_of_lt _ _ h

section Arrays
variable (a0 a1 : FVec Ideal S64x128x64 .f32) (a2 a3 : FVec Ideal S64x16272 .f32) (a4 : FVec Ideal S64x64 .f32)
  (a5 : FVec Ideal S16 .f32)

/-- The scores of all pairs of places. -/
def scores : FVec Ideal S64x128x128 .f32 :=
  Host.dotGeneral dot_S64x64x128_S64x128x64_S64x128x128_0_2_2_1_1_0 none
    (Host.dotGeneral dot_S64x64_S64x128x64_S64x64x128_0_2_1_01_n_n none a4 a0) a1

/-- The logits. -/
def logits : FVec Ideal S64x16272 .f32 :=
  addf (mulf a2 (broadcastInDim S64x16272 ![] bcast_S_S64x16272 (constant S_ .f32 0xC9742400#32)))
    (mulf (concatenate S64x16272 1 [⟨S64x16256, Host.gather gather_S64x128x128_S16256x2_S64x16256_0_12_n_n_12_1_6411
        (scores a0 a1 a4) (pairOf rowW colW)⟩, ⟨S64x16, broadcastInDim S64x16 ![1] bcast_S16_S64x16_1 a5⟩]
        concatenates_S64x16256_S64x16_S64x16272_d1)
      (subf (broadcastInDim S64x16272 ![] bcast_S_S64x16272 (constant S_ .f32 0x3F800000#32)) a2))

/-- The keys. -/
def keys : FVec Ideal S64x16272 .f32 := addf (logits a0 a1 a2 a4 a5) a3

theorem scores_apply (b : Fin 64) (r c : Fin 128) : scores a0 a1 a4 (ix3 b r c)
    = Spec.score (fun b r h => a0 (ix3 b r h)) (fun b r h => a1 (ix3 b r h)) (fun k h => a4 (ix2 k h)) b r c := by
  unfold scores Spec.score
  pointwise
  exact Finset.sum_congr rfl fun y _ => congrArg (· * a1 (ix3 b c y)) (Finset.sum_congr rfl fun z _ => mul_comm _ _)

/-- The grid row of an off-diagonal candidate. -/
def prow (n : Fin 16256) : Fin 128 := ⟨n.val / 127, by omega⟩
/-- The place in its grid row of an off-diagonal candidate. -/
def pcol (n : Fin 16256) : Fin 128 := ⟨if n.val / 127 ≤ n.val % 127 then n.val % 127 + 1 else n.val % 127, by split <;> omega⟩

theorem pair_row (n : Fin 16256) : pairOf rowW colW (ix2 n (0 : Fin 2)) = BitVec.ofNat 32 (prow n).val := by
  have h := (prow n).isLt
  rw [pairOf_row _ _ _ (by rw [rowW_apply, BitVec.toNat_ofNat]; omega), rowW_apply]
  rfl

theorem pair_col (n : Fin 16256) : pairOf rowW colW (ix2 n (1 : Fin 2)) = BitVec.ofNat 32 (pcol n).val := by
  have h := (pcol n).isLt
  have e : colW (ix1 n) = BitVec.ofNat 32 (pcol n).val := colW_apply n
  rw [pairOf_col _ _ _ (by rw [e, BitVec.toNat_ofNat]; omega), e]

theorem pcol_gc (n : Fin L) (h : n.val < 16256) : pcol ⟨n.val, h⟩ = gc n :=
  Fin.ext (by simp only [pcol, gc, h, if_true])

theorem logits_apply (b : Fin 64) (n : Fin L) : logits a0 a1 a2 a4 a5 (ix2 b n)
    = Spec.lg (fun b r h => a0 (ix3 b r h)) (fun b r h => a1 (ix3 b r h)) (fun k h => a4 (ix2 k h))
        (fun b n => a2 (ix2 b n)) (fun t => a5 (ix1 t)) b n := by
  unfold logits Spec.lg
  pointwise
  refine congrArg (fun z => a2 (ix2 b n) * Spec.away + z * (1 - a2 (ix2 b n))) ?_
  by_cases h : n.val < 16256
  · rw [dif_pos h, dif_pos h, gatherPairs_apply _ _ _ _ _ _ (pair_row ⟨n.val, h⟩) (pair_col ⟨n.val, h⟩), scores_apply, pcol_gc n h]
    rfl
  · rw [dif_neg h, dif_neg h]

theorem keys_apply (b : Fin 64) (n : Fin L) : keys a0 a1 a2 a3 a4 a5 (ix2 b n)
    = Spec.ky (fun b r h => a0 (ix3 b r h)) (fun b r h => a1 (ix3 b r h)) (fun k h => a4 (ix2 k h))
        (fun b n => a2 (ix2 b n)) (fun t => a5 (ix1 t)) (fun b n => a3 (ix2 b n)) b n := by
  unfold keys Spec.ky
  rw [← logits_apply]
  rfl

end Arrays

/-! ### The buffers when the loop is reached -/

section Buffers
variable (V : Valuation τ sig (Elt Ideal))

/-- The logits the six argument buffers give. -/
abbrev lgV : FVec Ideal S64x16272 .f32 :=
  logits (V (Proc.devRef .tc main_arg0)) (V (Proc.devRef .tc main_arg1)) (V (Proc.devRef .tc main_arg2)) (V (Proc.devRef .tc main_arg4)) (V (Proc.devRef .tc main_arg5))
/-- The keys the six argument buffers give. -/
abbrev kyV : FVec Ideal S64x16272 .f32 :=
  keys (V (Proc.devRef .tc main_arg0)) (V (Proc.devRef .tc main_arg1)) (V (Proc.devRef .tc main_arg2)) (V (Proc.devRef .tc main_arg3)) (V (Proc.devRef .tc main_arg4)) (V (Proc.devRef .tc main_arg5))

theorem start_row : (after hostOps0 V (Proc.devRef .tc main_v4) : IVec S16256 32) = rowW := by
  unfold hostOps0
  after_reads_simp
  rfl

theorem start_col : (after hostOps0 V (Proc.devRef .tc main_v10) : IVec S16256 32) = colW := by
  unfold hostOps0
  after_reads_simp
  rfl

/-- The lines up to the pairs' words, the lines that lay the pairs out and take their scores, the rest. -/
abbrev opsA : List (HloOp τ sig (Elt Ideal)) := hostOps0.take 29
abbrev opsB : List (HloOp τ sig (Elt Ideal)) := (hostOps0.drop 29).take 3
abbrev opsC : List (HloOp τ sig (Elt Ideal)) := (hostOps0.drop 29).drop 3

theorem after_two (l₁ l₂ : List (HloOp τ sig (Elt Ideal))) (V : Valuation τ sig (Elt Ideal)) :
    after (l₁ ++ l₂) V = after l₂ (after l₁ V) := by
  induction l₁ generalizing V with
  | nil => rfl
  | cons op l ih => exact ih _

theorem after_start : after hostOps0 V = after opsC (after opsB (after opsA V)) := by
  rw [← after_two, ← after_two, List.take_append_drop, List.take_append_drop]

theorem a_scores : (after opsA V (Proc.devRef .tc main_v1) : FVec Ideal S64x128x128 .f32)
    = scores (V (Proc.devRef .tc main_arg0)) (V (Proc.devRef .tc main_arg1)) (V (Proc.devRef .tc main_arg4)) := by
  after_reads_simp
  rfl

theorem a_row : (after opsA V (Proc.devRef .tc main_v21) : IVec S16256x1 32)
    = broadcastInDim S16256x1 ![0] bcast_S16256_S16256x1_0 (wrapped rowW) := by
  after_reads_simp
  rfl

theorem a_col : (after opsA V (Proc.devRef .tc main_v22) : IVec S16256x1 32)
    = broadcastInDim S16256x1 ![0] bcast_S16256_S16256x1_0 (wrapped colW) := by
  after_reads_simp
  rfl

theorem a_keep : (after opsA V (Proc.devRef .tc main_arg2) = V (Proc.devRef .tc main_arg2)
    ∧ after opsA V (Proc.devRef .tc main_arg3) = V (Proc.devRef .tc main_arg3))
    ∧ after opsA V (Proc.devRef .tc main_arg5) = V (Proc.devRef .tc main_arg5) := by
  refine ⟨⟨?_, ?_⟩, ?_⟩ <;> after_reads_simp

theorem b_gather : (after opsB V (Proc.devRef .tc main_v24) : FVec Ideal S64x16256 .f32)
    = Host.gather gather_S64x128x128_S16256x2_S64x16256_0_12_n_n_12_1_6411
      (V (Proc.devRef .tc main_v1) : FVec Ideal S64x128x128 .f32)
      (concatenate S16256x2 1 [⟨S16256x1, (V (Proc.devRef .tc main_v21) : IVec S16256x1 32)⟩,
        ⟨S16256x1, (V (Proc.devRef .tc main_v22) : IVec S16256x1 32)⟩] concatenates_S16256x1_S16256x1_S16256x2_d1) := by
  after_reads_simp
  rfl

theorem b_dum : (after opsB V (Proc.devRef .tc main_v25) : FVec Ideal S64x16 .f32)
    = broadcastInDim S64x16 ![1] bcast_S16_S64x16_1 (V (Proc.devRef .tc main_arg5) : FVec Ideal S16 .f32) := by
  after_reads_simp

theorem b_keep : after opsB V (Proc.devRef .tc main_arg2) = V (Proc.devRef .tc main_arg2)
    ∧ after opsB V (Proc.devRef .tc main_arg3) = V (Proc.devRef .tc main_arg3) := by
  refine ⟨?_, ?_⟩ <;> after_reads_simp

/-- The logits, from the scores taken and the mask. -/
abbrev lgC : FVec Ideal S64x16272 .f32 :=
  addf (mulf (V (Proc.devRef .tc main_arg2)) (broadcastInDim S64x16272 ![] bcast_S_S64x16272 (constant S_ .f32 0xC9742400#32)))
    (mulf (concatenate S64x16272 1 [⟨S64x16256, (V (Proc.devRef .tc main_v24) : FVec Ideal S64x16256 .f32)⟩,
        ⟨S64x16, (V (Proc.devRef .tc main_v25) : FVec Ideal S64x16 .f32)⟩]
        concatenates_S64x16256_S64x16_S64x16272_d1)
      (subf (broadcastInDim S64x16272 ![] bcast_S_S64x16272 (constant S_ .f32 0x3F800000#32)) (V (Proc.devRef .tc main_arg2))))

theorem c_1 : (after opsC V (Proc.devRef .tc main_v36_1) : FVec Ideal S64x16272 .f32) = lgC V := by
  after_reads_simp
  rfl

theorem c_4 : (after opsC V (Proc.devRef .tc main_v36_4) : FVec Ideal S64x16272 .f32)
    = addf (lgC V) (V (Proc.devRef .tc main_arg3)) := by
  after_reads_simp
  rfl

theorem c_0 : (after opsC V (Proc.devRef .tc main_v36_0) : IVec S64x16 32)
    = (Host.topK S64x16 1 (FloatOps.cmpfTotal (F := Ideal) (φ := .f32) .gt) (addf (lgC V) (V (Proc.devRef .tc main_arg3)))
        sliceFits_S64x16272_S64x16).2 := by
  after_reads_simp
  rfl

theorem lgC_eq : lgC (after opsB (after opsA V)) = lgV V := by
  unfold lgC
  rw [b_gather, b_dum, (b_keep _).1, a_scores, a_row, a_col, (a_keep _).1.1, (a_keep _).2]
  rfl

theorem start_1 : (after hostOps0 V (Proc.devRef .tc main_v36_1) : FVec Ideal S64x16272 .f32) = lgV V := by
  rw [after_start, c_1, lgC_eq]

theorem start_4 : (after hostOps0 V (Proc.devRef .tc main_v36_4) : FVec Ideal S64x16272 .f32) = kyV V := by
  rw [after_start, c_4, lgC_eq, (b_keep _).2, (a_keep _).1.2]
  rfl

theorem start_0 : (after hostOps0 V (Proc.devRef .tc main_v36_0) : IVec S64x16 32)
    = (Host.topK S64x16 1 (FloatOps.cmpfTotal (F := Ideal) (φ := .f32) .gt) (kyV V) sliceFits_S64x16272_S64x16).2 := by
  rw [after_start, c_0, lgC_eq, (b_keep _).2, (a_keep _).1.2]
  rfl

theorem start_3 : (after hostOps0 V (Proc.devRef .tc main_v36_3) : IVec S_ 32) = constantI S_ 32 0#32 := by
  unfold hostOps0
  after_reads_simp
  rfl

/-- An array of zeros. -/
abbrev zeros : FVec Ideal S64x16272 .f32 := broadcastInDim S64x16272 ![] bcast_S_S64x16272 (constant S_ .f32 0x00000000#32)

theorem start_5 : (after hostOps0 V (Proc.devRef .tc main_v36_5) : FVec Ideal S64x16272 .f32) = zeros := by
  unfold hostOps0
  after_reads_simp
  rfl

theorem start_6 : (after hostOps0 V (Proc.devRef .tc main_v36_6) : FVec Ideal S64x16272 .f32) = zeros := by
  unfold hostOps0
  after_reads_simp
  rfl

theorem start_7 : (after hostOps0 V (Proc.devRef .tc main_v36_7) : FVec Ideal S64x16272 .f32) = zeros := by
  unfold hostOps0
  after_reads_simp
  rfl

theorem start_8 : (after hostOps0 V (Proc.devRef .tc main_v36_8) : FVec Ideal S64 .f32)
    = (broadcastInDim S64 ![] bcast_S_S64 (constant S_ .f32 0x00000000#32) : FVec Ideal S64 .f32) := by
  unfold hostOps0
  after_reads_simp
  rfl

end Buffers

end Cert.Proof.ReferenceValue
-- ==== Proof.Value.RefPicks.lean ====
/-
The reference's sixteen indices of each row: a stable sort by decreasing key, cut to its first sixteen positions.
-/
module

public import proofs.«01_k».proof.Proof.Math.Order
public import proofs.«01_k».proof.Proof.Value.RefStart

@[expose] public section

set_option maxRecDepth 16384

noncomputable section

namespace Cert.Proof.ReferenceValue

open Idealize.ShloMosaic Idealize.ShloMosaic.TcCoe Cert.ReferenceIdeal Cert.ReferenceIdeal.Gen
open Cert.Proof.Rows

variable (x : FVec Ideal S64x16272 .f32)

/-- Row `b`'s order "a greater key first". -/
def firstR (b : Fin 64) (k k' : Fin L) : Bool :=
  FloatOps.cmpfTotal (F := Ideal) (φ := .f32) .gt (x (ix2 b k)) (x (ix2 b k')) == 1#1

theorem firstR_iff (b : Fin 64) (k k' : Fin L) : firstR x b k k' = true ↔ x (ix2 b k') < x (ix2 b k) := by
  unfold firstR
  rw [beq_iff_eq]
  show BitVec.ofBool (decide (x (ix2 b k') < x (ix2 b k))) = 1#1 ↔ _
  by_cases h : x (ix2 b k') < x (ix2 b k)
  · simp [h]
  · simp [h]

/-- The candidate row `b` draws at round `i`. -/
def pick (b : Fin 64) (i : ℕ) : Fin L := sortedFrom (firstR x b) ⟨i % L, Nat.mod_lt _ (by decide)⟩

theorem pick_picks (b : Fin 64) : Picks (fun n => x (ix2 b n)) (pick x b) :=
  picks_sortedFrom _ _ (firstR_iff x b)

theorem along_eq (b : Fin 64) (k k' : Fin L) :
    (ix2 b k : S64x16272.Idx).along (1 : Fin 2) k' = ix2 b k' := by
  funext a
  match a with
  | ⟨0, _⟩ => rfl
  | ⟨1, _⟩ => rfl

theorem along_self (j : S64x16272.Idx) (k : Fin (S64x16272.size (1 : Fin 2))) : j.along (1 : Fin 2) k (1 : Fin 2) = k := by
  unfold Shape.Idx.along
  exact Function.update_self _ _ _

theorem iota_along (j : S64x16272.Idx) (k : Fin (S64x16272.size (1 : Fin 2))) :
    iotaInDim S64x16272 32 (1 : Fin 2) (j.along (1 : Fin 2) k) = BitVec.ofNat 32 k.val :=
  congrArg (fun q : Fin (S64x16272.size (1 : Fin 2)) => BitVec.ofNat 32 q.val) (along_self j k)

theorem topK_apply (b : Fin 64) (i : Fin 16) :
    (Host.topK S64x16 1 (FloatOps.cmpfTotal (F := Ideal) (φ := .f32) .gt) x sliceFits_S64x16272_S64x16).2 (ix2 b i)
      = BitVec.ofNat 32 (pick x b i.val).val := by
  have hi := i.isLt
  have hL : L = 16272 := rfl
  have hk : i.val % L < L := Nat.mod_lt _ (by decide)
  have e : extractStridedSlice S64x16 (fun _ => 0) (fun j : S64x16272.Idx => BitVec.ofNat 32
      (sortedFrom (fun k k' => FloatOps.cmpfTotal (F := Ideal) (φ := .f32) .gt (x (j.along (1 : Fin 2) k)) (x (j.along (1 : Fin 2) k')) == 1#1)
        (j (1 : Fin 2) : Fin L)).val) sliceFits_S64x16272_S64x16 (ix2 b i)
      = BitVec.ofNat 32 (pick x b i.val).val := by
    have hx : ∀ y : S64x16272.Idx → BitVec 32, extractStridedSlice S64x16 (fun _ => 0) y sliceFits_S64x16272_S64x16 (ix2 b i)
        = y (ix2 b ⟨i.val % L, hk⟩) := by
      intro y
      unfold extractStridedSlice
      refine congrArg y (funext fun a => Fin.ext ?_)
      match a with
      | ⟨0, _⟩ => exact Nat.zero_add _
      | ⟨1, _⟩ =>
        show 0 + i.val = i.val % L
        rw [Nat.mod_eq_of_lt (by omega)]
        omega
    rw [hx]
    refine congrArg (fun f => BitVec.ofNat 32 (sortedFrom f ⟨i.val % L, hk⟩).val) (funext fun k => funext fun k' => ?_)
    exact congrArg₂ (fun u v => FloatOps.cmpfTotal (F := Ideal) (φ := .f32) .gt u v == 1#1)
      (congrArg x (along_eq b _ k)) (congrArg x (along_eq b _ k'))
  refine Eq.trans ?_ e
  unfold Host.topK Host.sort2
  simp only
  rw [dif_pos (show 1 < S64x16272.rank by decide)]
  refine congrArg (fun f => extractStridedSlice S64x16 (fun _ => 0) f sliceFits_S64x16272_S64x16 (ix2 b i)) (funext fun j => ?_)
  dsimp only
  split
  · exact iota_along j _
  · next h => exact absurd (show 1 < 2 by decide) h

end Cert.Proof.ReferenceValue
-- ==== Proof.Value.RefStep.lean ====
/-
One trip of the reference's loop, read row by row: the scores, the softmax and its running sum, the candidate drawn, the
marks of the candidates drawn, the running log-probability.
-/
module

public import proofs.«01_k».proof.Proof.Value.RefPicks

@[expose] public section

set_option maxRecDepth 16384

noncomputable section

namespace Cert.Proof.ReferenceValue

open Idealize.ShloMosaic Idealize.ShloMosaic.TcCoe Cert.ReferenceIdeal Cert.ReferenceIdeal.Gen Cert.ReferenceIdeal.Value
open Cert.Proof.Rows

/-! ### The arrays of one trip -/

abbrev Rows' := FVec Ideal S64x16272 .f32

/-- One number everywhere. -/
abbrev all (w : BitVec 32) : Rows' := broadcastInDim S64x16272 ![] bcast_S_S64x16272 (constant S_ .f32 w)

/-- The scores after the trip. -/
def nextA (s o : Rows') : Rows' :=
  addf s (Host.log (maximumf (subf (all 0x3F800000#32) o) (all 0x2EDBE6FF#32)))

def scaledA (s : Rows') : Rows' := Host.divf s (all 0x3F800000#32)

def weightA (s : Rows') : Rows' :=
  Host.exp (subf (scaledA s) (broadcastInDim S64x16272 ![0, 1] bcast_S64x1_S64x16272_0_1 (broadcastInDim S64x1 ![0] bcast_S64_S64x1_0
    (maximumf (broadcastInDim S64 ![] bcast_S_S64 (constant S_ .f32 0xFF800000#32))
      (Host.reduce FloatOps.maximumf (scaledA s) (constant S_ .f32 0xFF800000#32) reducesTo_S64x16272_S64_d1 h_S_)))))

/-- The softmax of every row. -/
def softA (s : Rows') : Rows' :=
  Host.divf (weightA s) (broadcastInDim S64x16272 ![0, 1] bcast_S64x1_S64x16272_0_1 (broadcastInDim S64x1 ![0] bcast_S64_S64x1_0
    (Host.reduceAdd (weightA s) (constant S_ .f32 0x00000000#32) reducesTo_S64x16272_S64_d1 h_S_)))

/-- The words of the candidates drawn at the trip's round. -/
def drawnW (ix : IVec S64x16 32) (k : IVec S_ 32) : IVec S64x1 32 :=
  Host.dynamicSlice S64x1 ix (fun q => (((![constantI S_ 32 0#32, select (cmpi .slt k (constantI S_ 32 0#32))
    (addi (id k) (constantI S_ 32 16#32)) k] : Fin 2 → IVec S_ 32)) q (Shape.Idx.first h_S_)).toInt) sliceFits_S64x16_S64x1

/-- The logits of the candidates not drawn, minus infinity at the others. -/
def leftA (d lg : Rows') : Rows' := select (cmpf .ogt d (all 0x00000000#32)) (all 0xFF800000#32) lg

def leftMax (d lg : Rows') : FVec Ideal S64x1 .f32 :=
  broadcastInDim S64x1 ![0] bcast_S64_S64x1_0
    (Host.reduce FloatOps.maximumf (leftA d lg) (constant S_ .f32 0xFF800000#32) reducesTo_S64x16272_S64_d1 h_S_)

/-- The log-sum-exp of every row of those. -/
def lseA (d lg : Rows') : FVec Ideal S64 .f32 :=
  addf (Host.log (Host.reduceAdd (Host.exp (subf (leftA d lg)
      (broadcastInDim S64x16272 ![0, 1] bcast_S64x1_S64x16272_0_1 (leftMax d lg)))) (constant S_ .f32 0x00000000#32)
      reducesTo_S64x16272_S64_d1 h_S_)) (shapeCast S64 (leftMax d lg) shapeCasts_S64x1_S64)

def wordA (w : IVec S64x1 32) : IVec S64x1x1 32 :=
  shapeCast S64x1x1 (select (cmpi .slt w (broadcastInDim S64x1 ![] bcast_S_S64x1 (constantI S_ 32 0#32)))
    (addi w (broadcastInDim S64x1 ![] bcast_S_S64x1 (constantI S_ 32 16272#32))) w) shapeCasts_S64x1_S64x1x1

/-- The logits of the candidates drawn. -/
def takenA (lg : Rows') (w : IVec S64x1 32) : FVec Ideal S64 .f32 :=
  shapeCast S64 (Host.gather gather_S64x16272_S64x1x1_S64x1_n_1_0_0_1_2_11 lg (wordA w)) shapeCasts_S64x1_S64

def markW (w : IVec S64 32) : IVec S64x2 32 :=
  concatenate S64x2 1 [⟨S64x1, (broadcastInDim S64x1 ![0] bcast_S64_S64x1_0 (select
      (cmpi .slt (iotaInDim S64 32 0) (broadcastInDim S64 ![] bcast_S_S64 (constantI S_ 32 0#32)))
      (addi (iotaInDim S64 32 0) (broadcastInDim S64 ![] bcast_S_S64 (constantI S_ 32 64#32))) (iotaInDim S64 32 0)))⟩,
    ⟨S64x1, (broadcastInDim S64x1 ![0] bcast_S64_S64x1_0 (select (cmpi .slt w (broadcastInDim S64 ![] bcast_S_S64 (constantI S_ 32 0#32)))
      (addi w (broadcastInDim S64 ![] bcast_S_S64 (constantI S_ 32 16272#32))) w))⟩] concatenates_S64x1_S64x1_S64x2_d1

/-- The marks after the trip. -/
def marksA (d : Rows') (w : IVec S64x1 32) : Rows' :=
  Host.scatter scatter_S64x16272_S64x2_S64_n_01_01_1 (fun _ b => b) d (markW (shapeCast S64 w shapeCasts_S64x1_S64))
    (broadcastInDim S64 ![] bcast_S_S64 (constant S_ .f32 0x3F800000#32))

/-! ### Read row by row -/

theorem negInf' : Ideal.ofBits .f32 0xFF800000#32 = ⊥ := by simp [Ideal.ofBits, Ideal.ieee]

theorem one_pos' : (0 : EReal) < 1 := zero_lt_one

theorem div_one' (x : EReal) : Ideal.div x 1 = x := by
  unfold Ideal.div
  rw [if_neg one_ne_zero]
  simp

theorem nextA_apply (s o : Rows') (b : Fin 64) (n : Fin L) :
    nextA s o (ix2 b n) = sNext (fun n => s (ix2 b n)) (fun n => o (ix2 b n)) n := by
  unfold nextA sNext
  pointwise

theorem scaledA_eq (s : Rows') : scaledA s = s := by
  funext j
  idx_vars j
  unfold scaledA
  pointwise
  exact div_one' _

theorem weightA_apply (s : Rows') (b : Fin 64) (n : Fin L) :
    weightA s (ix2 b n) = Ideal.exp (s (ix2 b n) - Finset.univ.sup (fun n : Fin L => s (ix2 b n))) := by
  unfold weightA
  rw [scaledA_eq]
  pointwise
  rw [negInf']
  exact congrArg (fun z => Ideal.exp (s (ix2 b n) - z)) (max_eq_right bot_le)

theorem softA_apply (s : Rows') (b : Fin 64) (n : Fin L) :
    softA s (ix2 b n) = soft (fun n => s (ix2 b n)) n := by
  unfold softA soft expSum
  pointwise
  simp only [weightA_apply]

theorem drawnW_apply (ix : IVec S64x16 32) (k : IVec S_ 32) (i : Fin 16) (hk : k = constantI S_ 32 (BitVec.ofNat 32 i.val)) (b : Fin 64) :
    drawnW ix k (ix2 b (0 : Fin 1)) = ix (ix2 b i) := by
  subst hk
  unfold drawnW
  pointwise
  refine congrArg₂ (fun u v => ix (ix2 u v)) (Fin.ext ?_) (Fin.ext ?_)
  · refine (congrArg (· + b.val) (Host.clampedStart_of_le _ _ _ 0 ?_ ?_)).trans (Nat.zero_add _)
    · rfl
    · exact Nat.le_refl 64
  · dsimp only
    refine Host.clampedStart_of_le _ _ _ i.val ?_ ?_
    · show (Scalar.select (IntOp.cmpi .slt (BitVec.ofNat 32 i.val) 0#32) (IntOp.addi (BitVec.ofNat 32 i.val) 16#32)
        (BitVec.ofNat 32 i.val)).toInt = i.val
      rw [Routing.wrap_of_lt _ _ (by rw [BitVec.toNat_ofNat]; omega), StableHlo.Predicate.toInt_ofNat_small _ (by omega)]
    · show i.val + 1 ≤ 16
      omega

theorem leftA_apply (d lg : Rows') (p : ℕ → Fin L) (i : ℕ) (b : Fin 64)
    (hd : ∀ n, (Drawn p i n → d (ix2 b n) = 1) ∧ (¬ Drawn p i n → d (ix2 b n) = 0)) (n : Fin L) :
    leftA d lg (ix2 b n) = undrawn (fun n => lg (ix2 b n)) p i n := by
  unfold leftA undrawn
  pointwise
  by_cases h : Drawn p i n
  · rw [if_pos h, (hd n).1 h, if_pos one_pos', negInf']
  · rw [if_neg h, (hd n).2 h, if_neg (lt_irrefl _)]

theorem lseA_apply (d lg : Rows') (b : Fin 64) :
    lseA d lg (ix1 b) = lse (fun n => leftA d lg (ix2 b n)) := by
  unfold lseA leftMax lse expSum
  pointwise
  rw [negInf']
  rfl

theorem wordA_apply (w : IVec S64x1 32) (b : Fin 64) (h : (w (ix2 b (0 : Fin 1))).toNat < 2 ^ 31) :
    wordA w (ix3 b (0 : Fin 1) (0 : Fin 1)) = w (ix2 b (0 : Fin 1)) := by
  unfold wordA
  pointwise
  exact Routing.wrap_of_lt _ _ h

theorem takenA_apply (lg : Rows') (w : IVec S64x1 32) (b : Fin 64) (n : Fin L) (hw : w (ix2 b (0 : Fin 1)) = BitVec.ofNat 32 n.val) :
    takenA lg w (ix1 b) = lg (ix2 b n) := by
  unfold takenA
  pointwise
  refine gatherRow_apply lg (wordA w) b n ?_
  have hn := n.isLt
  have hL : L = 16272 := rfl
  rw [wordA_apply w b (by rw [hw, BitVec.toNat_ofNat]; omega), hw]

theorem markW_row (w : IVec S64 32) (b : Fin 64) : markW w (ix2 b (0 : Fin 2)) = BitVec.ofNat 32 b.val := by
  unfold markW
  pointwise
  exact Routing.wrap_of_lt _ _ (by rw [BitVec.toNat_ofNat]; omega)

theorem markW_col (w : IVec S64 32) (b : Fin 64) (h : (w (ix1 b)).toNat < 2 ^ 31) : markW w (ix2 b (1 : Fin 2)) = w (ix1 b) := by
  unfold markW
  pointwise
  exact Routing.wrap_of_lt _ _ h

theorem marksA_apply (d : Rows') (w : IVec S64x1 32) (p : Fin 64 → Fin L)
    (hw : ∀ b, w (ix2 b (0 : Fin 1)) = BitVec.ofNat 32 (p b).val) (b : Fin 64) (n : Fin L) :
    marksA d w (ix2 b n) = if p b = n then 1 else d (ix2 b n) := by
  have hL : L = 16272 := rfl
  have hs : ∀ b, (shapeCast S64 w shapeCasts_S64x1_S64 : IVec S64 32) (ix1 b) = BitVec.ofNat 32 (p b).val := by
    intro b
    rw [← hw b]
    pointwise
  unfold marksA
  rw [scatterRow_apply d _ _ p (fun b => markW_row _ b) (fun b => by
    have hp := (p b).isLt
    rw [markW_col _ _ (by rw [hs, BitVec.toNat_ofNat]; omega), hs])]
  refine congrArg (fun z : EReal => if p b = n then z else d (ix2 b n)) ?_
  pointwise

/-! ### The trip's buffers are those arrays -/

section Step
variable (V : Valuation τ sig (Elt Ideal))

abbrev b0 : IVec S64x16 32 := V (Proc.devRef .tc main_v36_0)
abbrev b1 : Rows' := V (Proc.devRef .tc main_v36_1)
abbrev b3 : IVec S_ 32 := V (Proc.devRef .tc main_v36_3)
abbrev b4 : Rows' := V (Proc.devRef .tc main_v36_4)
abbrev b5 : Rows' := V (Proc.devRef .tc main_v36_5)
abbrev b6 : Rows' := V (Proc.devRef .tc main_v36_6)
abbrev b7 : Rows' := V (Proc.devRef .tc main_v36_7)
abbrev b8 : FVec Ideal S64 .f32 := V (Proc.devRef .tc main_v36_8)

theorem trip_0 : b0 (STEP V) = b0 V := STEP_main_v36_0 V
theorem trip_1 : b1 (STEP V) = b1 V := STEP_main_v36_1 V
theorem trip_3 : b3 (STEP V) = addi (b3 V) (constantI S_ 32 1#32) := STEP_main_v36_3 V
theorem trip_4 : b4 (STEP V) = nextA (b4 V) (b5 V) := STEP_main_v36_4 V
theorem trip_5 : b5 (STEP V) = softA (nextA (b4 V) (b5 V)) := STEP_main_v36_5 V
theorem trip_6 : b6 (STEP V) = addf (b6 V) (softA (nextA (b4 V) (b5 V))) := STEP_main_v36_6 V
theorem trip_mark : concatenate S64x2 1 [⟨S64x1, (broadcastInDim S64x1 ![0] bcast_S64_S64x1_0 (select (cmpi .slt (res_main_while0b_v96 V) (broadcastInDim S64 ![] bcast_S_S64 (constantI S_ 32 0#32))) (addi (res_main_while0b_v96 V) (broadcastInDim S64 ![] bcast_S_S64 (constantI S_ 32 64#32))) (res_main_while0b_v96 V)))⟩, ⟨S64x1, (broadcastInDim S64x1 ![0] bcast_S64_S64x1_0 (select (cmpi .slt (res_main_while0b_v97 V) (broadcastInDim S64 ![] bcast_S_S64 (constantI S_ 32 0#32))) (addi (res_main_while0b_v97 V) (broadcastInDim S64 ![] bcast_S_S64 (constantI S_ 32 16272#32))) (res_main_while0b_v97 V)))⟩] concatenates_S64x1_S64x1_S64x2_d1 = markW (shapeCast S64 (drawnW (b0 V) (b3 V)) shapeCasts_S64x1_S64) := rfl
theorem trip_7 : b7 (STEP V) = marksA (b7 V) (drawnW (b0 V) (b3 V)) := by
  refine (STEP_main_v36_7 V).trans ?_
  unfold step_main_v36_7 marksA
  rw [← trip_mark]
  refine (id_eq _).trans ?_
  exact rfl
theorem trip_8 : b8 (STEP V) = subf (addf (b8 V) (takenA (b1 V) (drawnW (b0 V) (b3 V)))) (lseA (b7 V) (b1 V)) :=
  STEP_main_v36_8 V

end Step

/-! ### The loop -/

/-- What the carried buffers hold after `k` trips. -/
structure Inv (x lg : Rows') (f : Fin 64 → Fin L → ℝ) (V : Valuation τ sig (Elt Ideal)) (k : ℕ) : Prop where
  h0 : ∀ (b : Fin 64) (i : Fin 16), b0 V (ix2 b i) = BitVec.ofNat 32 (pick x b i.val).val
  h1 : b1 V = lg
  h3 : b3 V = constantI S_ 32 (BitVec.ofNat 32 k)
  h4 : ∀ b, (fun n : Fin L => b4 V (ix2 b n)) = (samp (fun n => x (ix2 b n)) k).1
  h5 : ∀ b, (fun n : Fin L => b5 V (ix2 b n)) = (samp (fun n => x (ix2 b n)) k).2.1
  h6 : ∀ b, (fun n : Fin L => b6 V (ix2 b n)) = (samp (fun n => x (ix2 b n)) k).2.2
  h7 : ∀ (b : Fin 64) (n : Fin L), (Drawn (pick x b) k n → b7 V (ix2 b n) = 1) ∧ (¬ Drawn (pick x b) k n → b7 V (ix2 b n) = 0)
  h8 : ∀ b, b8 V (ix1 b) = ((logpFrom (f b) (pick x b) 0 k : ℝ) : EReal)

theorem Inv.next (x lg : Rows') (f : Fin 64 → Fin L → ℝ) (hf : ∀ b, (fun n : Fin L => lg (ix2 b n)) = fun n => (f b n : EReal))
    (V : Valuation τ sig (Elt Ideal)) (k : ℕ) (hk : k < 16) (I : Inv x lg f V k) : Inv x lg f (STEP V) (k + 1) := by
  have hn : ∀ b, (fun n : Fin L => nextA (b4 V) (b5 V) (ix2 b n)) = (samp (fun n => x (ix2 b n)) (k + 1)).1 := by
    intro b
    funext n
    rw [nextA_apply, I.h4, I.h5]
    rfl
  have ho : ∀ b, (fun n : Fin L => softA (nextA (b4 V) (b5 V)) (ix2 b n)) = (samp (fun n => x (ix2 b n)) (k + 1)).2.1 := by
    intro b
    funext n
    rw [softA_apply, hn]
    rfl
  have hw : ∀ b, drawnW (b0 V) (b3 V) (ix2 b (0 : Fin 1)) = BitVec.ofNat 32 (pick x b k).val := by
    intro b
    rw [drawnW_apply (b0 V) (b3 V) ⟨k, hk⟩ I.h3 b, I.h0]
  refine ⟨?_, ?_, ?_, ?_, ?_, ?_, ?_, ?_⟩
  · rw [trip_0]; exact I.h0
  · rw [trip_1]; exact I.h1
  · rw [trip_3, I.h3, BitVec.ofNat_add]
    rfl
  · rw [trip_4]; exact hn
  · rw [trip_5]; exact ho
  · intro b
    funext n
    have e6 := congrFun (I.h6 b) n
    have eo := congrFun (ho b) n
    rw [trip_6]
    show b6 V (ix2 b n) + softA (nextA (b4 V) (b5 V)) (ix2 b n) = _
    refine (congrArg₂ (fun u v : EReal => u + v) e6 eo).trans ?_
    rfl
  · intro b n
    rw [trip_7, marksA_apply _ _ (fun b => pick x b k) hw, drawn_succ]
    by_cases h : pick x b k = n
    · rw [if_pos h]
      exact ⟨fun _ => rfl, fun q => absurd (.inr h) q⟩
    · rw [if_neg h]
      refine ⟨fun q => (I.h7 b n).1 (q.resolve_right h), fun q => (I.h7 b n).2 fun r => q (.inl r)⟩
  · intro b
    rw [trip_8]
    show b8 V (ix1 b) + takenA (b1 V) (drawnW (b0 V) (b3 V)) (ix1 b) - lseA (b7 V) (b1 V) (ix1 b) = _
    have el : (fun n : Fin L => leftA (b7 V) (b1 V) (ix2 b n)) = undrawn (fun n => (f b n : EReal)) (pick x b) k := by
      funext n
      rw [leftA_apply _ _ _ _ _ (I.h7 b), I.h1, hf]
    rw [takenA_apply _ _ _ _ (hw b), lseA_apply, el, lse_undrawn _ ⟨f b, rfl⟩ _ _ (by omega), I.h8, I.h1]
    have ef : lg (ix2 b (pick x b k)) = (f b (pick x b k) : EReal) := congrFun (hf b) (pick x b k)
    rw [ef]
    exact logp_fwd (f b) (pick x b) k

theorem Inv.iterate (x lg : Rows') (f : Fin 64 → Fin L → ℝ) (hf : ∀ b, (fun n : Fin L => lg (ix2 b n)) = fun n => (f b n : EReal))
    (V : Valuation τ sig (Elt Ideal)) (I : Inv x lg f V 0) : ∀ k ≤ 16, Inv x lg f (STEP^[k] V) k
  | 0, _ => I
  | k + 1, h => by
    rw [Function.iterate_succ_apply']
    exact Inv.next x lg f hf _ k (by omega) (Inv.iterate x lg f hf V I k (by omega))

end Cert.Proof.ReferenceValue
-- ==== Proof.Value.RefFinal.lean ====
/-
The reference's three results: the sum of the soft samples, the same sum laid out on the grid, and the log-probability.
-/
module

public import proofs.«01_k».proof.Proof.Value.RefStep
public import proofs.«01_k».proof.Proof.Run.ReferenceIdeal

@[expose] public section

set_option maxRecDepth 16384

noncomputable section

namespace Cert.Proof.ReferenceValue

open Idealize.ShloMosaic Idealize.ShloMosaic.TcCoe Cert.ReferenceIdeal Cert.ReferenceIdeal.Gen Cert.ReferenceIdeal.Value
open Idealize.ShloMosaic.StableHlo Cert.Proof.Rows

variable (m : (ℓ : Loc nD τ sig) → Buf (Elt Ideal) ℓ) (c : Dev nD)

/-- The contents the program starts from. -/
abbrev V0 : Valuation τ sig (Elt Ideal) := launchContents m c

theorem entry_eq : entryContents preI m c = after hostOps0 (V0 m c) := rfl

theorem zeros_apply (b : Fin 64) (n : Fin L) : zeros (ix2 b n) = 0 := by
  unfold zeros
  pointwise

/-- The loop's invariant holds where the loop is entered. -/
theorem start_inv (f : Fin 64 → Fin L → ℝ) :
    Inv (kyV (V0 m c)) (lgV (V0 m c)) f (entryContents preI m c) 0 := by
  rw [entry_eq]
  refine ⟨fun b i => ?_, start_1 _, start_3 _, fun b => ?_, fun b => ?_, fun b => ?_, fun b n => ⟨fun h => ?_, fun _ => ?_⟩, fun b => ?_⟩
  · refine (congrFun (start_0 (V0 m c)) (ix2 b i)).trans ?_
    exact topK_apply _ b i
  · refine funext fun n => ?_
    exact congrFun (start_4 (V0 m c)) (ix2 b n)
  · refine funext fun n => ?_
    exact (congrFun (start_5 (V0 m c)) (ix2 b n)).trans (zeros_apply b n)
  · refine funext fun n => ?_
    exact (congrFun (start_6 (V0 m c)) (ix2 b n)).trans (zeros_apply b n)
  · obtain ⟨j, hj, _⟩ := h
    exact absurd hj (Nat.not_lt_zero j)
  · exact (congrFun (start_7 (V0 m c)) (ix2 b n)).trans (zeros_apply b n)
  · refine (congrFun (start_8 (V0 m c)) (ix1 b)).trans ?_
    pointwise
    simp [logpFrom]

/-- A carried buffer at the loop's end. -/
theorem exit_carried (j : Ref sig .tc) (hj : j ∈ carriedRefs) :
    Cert.Proof.ReferenceIdeal.exitV m c (Proc.devRef .tc j) = STEP^[16] (entryContents preI m c) (Proc.devRef .tc j) :=
  (cond_keeps _ j hj).trans (atK_agree m c 16 j hj)

/-- What the loop leaves. -/
theorem exit_inv (f : Fin 64 → Fin L → ℝ) (hf : ∀ b, (fun n : Fin L => lgV (V0 m c) (ix2 b n)) = fun n => (f b n : EReal)) :
    Inv (kyV (V0 m c)) (lgV (V0 m c)) f (STEP^[16] (entryContents preI m c)) 16 :=
  Inv.iterate _ _ f hf _ (start_inv m c f) 16 le_rfl

section After
variable (V : Valuation τ sig (Elt Ideal))

/-- The operations after the loop, up to the two columns of places, and the rest. -/
abbrev opsD : List (HloOp τ sig (Elt Ideal)) := hostOps0_1.take 19
abbrev opsE : List (HloOp τ sig (Elt Ideal)) := hostOps0_1.drop 19

theorem after_end : after hostOps0_1 V = after opsE (after opsD V) := by
  rw [← after_two, List.take_append_drop]

theorem end_37 : (after hostOps0_1 V (Proc.devRef .tc main_v37) : FVec Ideal S64x16256 .f32)
    = extractStridedSlice S64x16256 ![0, 0] (b6 V) slices_S64x16272_S64x16256_0_0 := by
  rw [after_end]
  simp only [opsE, opsD, hostOps0_1, List.take, List.drop]
  after_reads_simp

theorem d_37 : (after opsD V (Proc.devRef .tc main_v37) : FVec Ideal S64x16256 .f32)
    = extractStridedSlice S64x16256 ![0, 0] (b6 V) slices_S64x16272_S64x16256_0_0 := by
  simp only [opsD, hostOps0_1, List.take]
  after_reads_simp

theorem d_38 : (after opsD V (Proc.devRef .tc main_v38) : FVec Ideal S64x128x128 .f32)
    = (broadcastInDim S64x128x128 ![] bcast_S_S64x128x128 (constant S_ .f32 0x00000000#32) : FVec Ideal S64x128x128 .f32) := by
  simp only [opsD, hostOps0_1, List.take]
  after_reads_simp

theorem d_49 : (after opsD V (Proc.devRef .tc main_v49) : IVec S16256x1 32)
    = broadcastInDim S16256x1 ![0] bcast_S16256_S16256x1_0 (wrapped (V (Proc.devRef .tc main_v4))) := by
  simp only [opsD, hostOps0_1, List.take]
  after_reads_simp

theorem d_50 : (after opsD V (Proc.devRef .tc main_v50) : IVec S16256x1 32)
    = broadcastInDim S16256x1 ![0] bcast_S16256_S16256x1_0 (wrapped (V (Proc.devRef .tc main_v10))) := by
  simp only [opsD, hostOps0_1, List.take]
  after_reads_simp

/-- The last array from the two columns, the zeros and the sums. -/
abbrev lastE : FVec Ideal S64x128x128 .f32 :=
  Host.scatter scatter_S64x128x128_S16256x2_S64x16256_0_12_12_1 (fun _ b => b)
    (V (Proc.devRef .tc main_v38) : FVec Ideal S64x128x128 .f32)
    (concatenate S16256x2 1 [⟨S16256x1, (V (Proc.devRef .tc main_v49) : IVec S16256x1 32)⟩,
      ⟨S16256x1, (V (Proc.devRef .tc main_v50) : IVec S16256x1 32)⟩] concatenates_S16256x1_S16256x1_S16256x2_d1)
    (V (Proc.devRef .tc main_v37) : FVec Ideal S64x16256 .f32)

theorem e_52 : (after opsE V (Proc.devRef .tc main_v52) : FVec Ideal S64x128x128 .f32) = lastE V := by
  simp only [opsE, hostOps0_1, List.drop]
  after_reads_simp
  rfl

theorem end_52 (hr : (V (Proc.devRef .tc main_v4) : IVec S16256 32) = rowW) (hc : (V (Proc.devRef .tc main_v10) : IVec S16256 32) = colW) :
    (after hostOps0_1 V (Proc.devRef .tc main_v52) : FVec Ideal S64x128x128 .f32)
    = Host.scatter scatter_S64x128x128_S16256x2_S64x16256_0_12_12_1 (fun _ b => b)
      (broadcastInDim S64x128x128 ![] bcast_S_S64x128x128 (constant S_ .f32 0x00000000#32) : FVec Ideal S64x128x128 .f32)
      (pairOf rowW colW) (extractStridedSlice S64x16256 ![0, 0] (b6 V) slices_S64x16272_S64x16256_0_0) := by
  rw [after_end, e_52]
  unfold lastE
  rw [d_37, d_38, d_49, d_50, hr, hc]
  rfl

end After

/-! ### The results -/

/-- A pair of two places, among all the candidates. -/
abbrev wide (n : Fin 16256) : Fin L := ⟨n.val, by have := n.isLt; simp only [L]; omega⟩

variable (f : Fin 64 → Fin L → ℝ) (hf : ∀ b, (fun n : Fin L => lgV (V0 m c) (ix2 b n)) = fun n => (f b n : EReal))

/-- The sum of the soft samples of a row. -/
abbrev total (b : Fin 64) (n : Fin L) : EReal := (samp (fun n => kyV (V0 m c) (ix2 b n)) 16).2.2 n

abbrev fin37 : FVec Ideal S64x16256 .f32 := after hostOps0_1 (Cert.Proof.ReferenceIdeal.exitV m c) (Proc.devRef .tc main_v37)
abbrev fin52 : FVec Ideal S64x128x128 .f32 := after hostOps0_1 (Cert.Proof.ReferenceIdeal.exitV m c) (Proc.devRef .tc main_v52)
abbrev fin8 : FVec Ideal S64 .f32 := after hostOps0_1 (Cert.Proof.ReferenceIdeal.exitV m c) (Proc.devRef .tc main_v36_8)

include hf

theorem exit_6 (b : Fin 64) (n : Fin L) : b6 (Cert.Proof.ReferenceIdeal.exitV m c) (ix2 b n) = total m c b n := by
  refine (congrFun (exit_carried m c main_v36_6 (by decide)) (ix2 b n)).trans ?_
  exact congrFun ((exit_inv m c f hf).h6 b) n

theorem slice_6 (b : Fin 64) (n : Fin 16256) :
    extractStridedSlice S64x16256 ![0, 0] (b6 (Cert.Proof.ReferenceIdeal.exitV m c)) slices_S64x16272_S64x16256_0_0 (ix2 b n)
      = total m c b (wide n) := by
  refine Eq.trans ?_ (exit_6 m c f hf b (wide n))
  pointwise

theorem fin37_apply (b : Fin 64) (n : Fin 16256) : fin37 m c (ix2 b n) = total m c b (wide n) :=
  (congrFun (end_37 _) (ix2 b n)).trans (slice_6 m c f hf b n)

theorem fin8_apply (b : Fin 64) : fin8 m c (ix1 b)
    = ((logpFrom (f b) (pick (kyV (V0 m c)) b) 0 16 : ℝ) : EReal) := by
  have e : fin8 m c = STEP^[16] (entryContents preI m c) (Proc.devRef .tc main_v36_8) :=
    (after_of_writes_sub hostOps0_1 _ Cert.Proof.ReferenceIdeal.post_writes (by decide)).trans
      (exit_carried m c main_v36_8 (by decide))
  exact (congrFun e (ix1 b)).trans ((exit_inv m c f hf).h8 b)

omit hf in
theorem fin52_eq : fin52 m c
    = Host.scatter scatter_S64x128x128_S16256x2_S64x16256_0_12_12_1 (fun _ b => b)
      (broadcastInDim S64x128x128 ![] bcast_S_S64x128x128 (constant S_ .f32 0x00000000#32) : FVec Ideal S64x128x128 .f32)
      (pairOf rowW colW) (extractStridedSlice S64x16256 ![0, 0] (b6 (Cert.Proof.ReferenceIdeal.exitV m c)) slices_S64x16272_S64x16256_0_0) :=
  end_52 _
    ((Cert.Proof.ReferenceIdeal.exit_keep m main_v4 ⟨by decide +kernel, by decide +kernel, by decide +kernel, by decide +kernel⟩ c).trans
      (start_row _))
    ((Cert.Proof.ReferenceIdeal.exit_keep m main_v10 ⟨by decide +kernel, by decide +kernel, by decide +kernel, by decide +kernel⟩ c).trans
      (start_col _))

omit hf in
theorem place_inj (n n' : Fin 16256) (hr : prow n = prow n') (hc : pcol n = pcol n') : n = n' := by
  have h1 := congrArg Fin.val hr
  have h2 := congrArg Fin.val hc
  simp only [prow, pcol] at h1 h2
  apply Fin.ext
  split at h2 <;> split at h2 <;> omega

omit hf in
theorem place_off (n : Fin 16256) : (pcol n).val ≠ (prow n).val := by
  simp only [prow, pcol]
  split <;> omega

theorem fin52_place (b : Fin 64) (n : Fin 16256) : fin52 m c (ix3 b (prow n) (pcol n)) = total m c b (wide n) := by
  refine (congrFun (fin52_eq m c) _).trans ?_
  rw [scatterPairs_hit _ _ _ prow pcol pair_row pair_col place_inj]
  exact slice_6 m c f hf b n

omit hf in
theorem fin52_diag (b : Fin 64) (r : Fin 128) : fin52 m c (ix3 b r r) = 0 := by
  refine (congrFun (fin52_eq m c) _).trans ?_
  rw [scatterPairs_miss _ _ _ prow pcol pair_row pair_col b r r fun n h =>
    place_off n ((congrArg Fin.val h.2).trans (congrArg Fin.val h.1).symm)]
  pointwise

end Cert.Proof.ReferenceValue

end
-- ==== Proof.Algebraic.lean ====
/-
The kernel and the reference give the same three results: both are the sampler's soft samples and log-probability over
the same logits and keys, and the order in which the candidates are drawn is the keys' order.
-/
module

public import proofs.«01_k».proof.Defs
public import proofs.«01_k».proof.Proof.Finite
public import proofs.«01_k».proof.Proof.Value.KernelFinal
public import proofs.«01_k».proof.Proof.Value.RefFinal

@[expose] public section

set_option maxRecDepth 16384

noncomputable section

namespace Cert.Proof.Algebraic

open Idealize.ShloMosaic Idealize.ShloMosaic.TcCoe Idealize.SL Idealize.SL.Sem Cert.Proof.Rows Cert.Proof.Finite

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two programs start from the same arguments. -/
abbrev Same : Prop :=
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)

section Rows
variable (hs : Same m m' c)
include hs

theorem lg_row (b : Fin 64) (n : Fin L) :
    ReferenceValue.lgV (ReferenceValue.V0 m' c) (ix2 b n) = KernelValue.lgM m c b n := by
  obtain ⟨h0, h1, h2, h3, h4, h5⟩ := hs
  refine (ReferenceValue.logits_apply _ _ _ _ _ b n).trans ?_
  show Spec.lg (fun b r h => m' (c.tc.loc Cert.ReferenceIdeal.main_arg0) (ix3 b r h)) (fun b r h => m' (c.tc.loc Cert.ReferenceIdeal.main_arg1) (ix3 b r h))
    (fun k h => m' (c.tc.loc Cert.ReferenceIdeal.main_arg4) (ix2 k h)) (fun b n => m' (c.tc.loc Cert.ReferenceIdeal.main_arg2) (ix2 b n))
    (fun t => m' (c.tc.loc Cert.ReferenceIdeal.main_arg5) (ix1 t)) b n = _
  rw [h0, h1, h2, h4, h5]
  rfl

theorem ky_row (b : Fin 64) :
    (fun n : Fin L => ReferenceValue.kyV (ReferenceValue.V0 m' c) (ix2 b n)) = KernelValue.kyM m c b := by
  obtain ⟨h0, h1, h2, h3, h4, h5⟩ := hs
  refine funext fun n => ?_
  refine (ReferenceValue.keys_apply _ _ _ _ _ _ b n).trans ?_
  show Spec.ky (fun b r h => m' (c.tc.loc Cert.ReferenceIdeal.main_arg0) (ix3 b r h)) (fun b r h => m' (c.tc.loc Cert.ReferenceIdeal.main_arg1) (ix3 b r h))
    (fun k h => m' (c.tc.loc Cert.ReferenceIdeal.main_arg4) (ix2 k h)) (fun b n => m' (c.tc.loc Cert.ReferenceIdeal.main_arg2) (ix2 b n))
    (fun t => m' (c.tc.loc Cert.ReferenceIdeal.main_arg5) (ix1 t)) (fun b n => m' (c.tc.loc Cert.ReferenceIdeal.main_arg3) (ix2 b n)) b n = _
  rw [h0, h1, h2, h3, h4, h5]
  rfl

variable (f : Fin 64 → Fin L → ℝ) (hf : ∀ b, KernelValue.lgM m c b = fun n => (f b n : EReal))
  (hk : ∀ b, Real' (KernelValue.kyM m c b))

/-- The order of the reference's draws is the order of the kernel's keys. -/
theorem picks (b : Fin 64) :
    Picks (KernelValue.kyM m c b) (ReferenceValue.pick (ReferenceValue.kyV (ReferenceValue.V0 m' c)) b) := by
  rw [← ky_row m m' c hs b]
  exact ReferenceValue.pick_picks _ b

include hf in
theorem lg_rows (b : Fin 64) :
    (fun n : Fin L => ReferenceValue.lgV (ReferenceValue.V0 m' c) (ix2 b n)) = fun n => (f b n : EReal) := by
  rw [← hf b]
  exact funext fun n => lg_row m m' c hs b n

theorem total_eq (b : Fin 64) (n : Fin L) :
    ReferenceValue.total m' c b n = (samp (KernelValue.kyM m c b) 16).2.2 n := by
  unfold ReferenceValue.total
  rw [ky_row m m' c hs b]

include hf hk

theorem same_soft : ReferenceValue.fin37 m' c = KernelValue.res0 m c := by
  funext j
  idx_vars j
  rw [ReferenceValue.fin37_apply m' c f (lg_rows m m' c hs f hf),
    KernelValue.res0_apply m c j0 _ (hk j0) (picks m m' c hs j0), total_eq m m' c hs]

theorem same_logp : ReferenceValue.fin8 m' c = KernelValue.res2 m c := by
  funext j
  idx_vars j
  rw [ReferenceValue.fin8_apply m' c f (lg_rows m m' c hs f hf),
    KernelValue.res2_apply m c j0 (f j0) _ (hf j0) (hk j0) (picks m m' c hs j0)]

theorem same_grid : ReferenceValue.fin52 m' c = KernelValue.arr9 m c := by
  funext j
  idx_vars j
  rw [KernelValue.arr9_apply m c j0 _ (hk j0) (picks m m' c hs j0)]
  by_cases hd : j2.val = j1.val
  · rw [if_pos hd, Fin.ext hd]
    exact ReferenceValue.fin52_diag m' c j0 j1
  · rw [if_neg hd]
    have hn : (KernelValue.pair j1 j2).val < 16256 := by
      have := j1.isLt
      have := j2.isLt
      simp only [KernelValue.pair]
      split <;> omega
    have e := ReferenceValue.fin52_place m' c f (lg_rows m m' c hs f hf) j0 ⟨(KernelValue.pair j1 j2).val, hn⟩
    have e2 : ReferenceValue.pcol ⟨(KernelValue.pair j1 j2).val, hn⟩ = j2 :=
      (ReferenceValue.pcol_gc _ hn).trans (KernelValue.gc_pair j1 j2 hd)
    have e1 : ReferenceValue.prow ⟨(KernelValue.pair j1 j2).val, hn⟩ = j1 := by
      refine Fin.ext (Eq.trans ?_ (KernelValue.gr_pair j1 j2 hd))
      simp only [ReferenceValue.prow, gr, hn, if_true]
    rw [e1, e2] at e
    rw [e, total_eq m m' c hs]

end Rows

theorem algebraic : Cert.algebraic_KernelIdeal_ReferenceIdeal_pre_finite := by
  intro m g m' g' hpre hs
  have hreal : ∀ c, (∀ b n, IsReal (KernelValue.lgM m c b n)) ∧ ∀ b n, IsReal (KernelValue.kyM m c b n) := by
    intro c
    obtain ⟨h0, h1, h2, h3, h4, h5⟩ := reals _ _ _ _ _ _ (hpre c)
    exact ⟨fun b n => lg_real _ _ _ _ _ (fun _ _ _ => h0 _) (fun _ _ _ => h1 _) (fun _ _ => h4 _) (fun _ _ => h2 _) (fun _ => h5 _) b n,
      fun b n => ky_real _ _ _ _ _ _ (fun _ _ _ => h0 _) (fun _ _ _ => h1 _) (fun _ _ => h4 _) (fun _ _ => h2 _) (fun _ _ => h3 _)
        (fun _ => h5 _) b n⟩
  choose f hf using fun c => (hreal c).1
  have hf' : ∀ c b, KernelValue.lgM m c b = fun n => (f c b n : EReal) := fun c b => funext fun n => hf c b n
  have hk : ∀ c b, Real' (KernelValue.kyM m c b) := fun c b => real'_of _ ((hreal c).2 b)
  refine ⟨fun c => KernelValue.res0 m c, fun c => KernelValue.arr9 m c, fun c => KernelValue.res2 m c, ?_, ?_⟩
  · exact (θ_run _ _ _).mono (fun r h c => ⟨(h c).1.1, (h c).1.2.1, (h c).1.2.2, (h c).2⟩) (KernelValue.run m g)
  · refine (θ_run _ _ _).mono (fun r h c => ?_) (ReferenceIdeal.run_final m' g')
    have e0 := (h c Cert.ReferenceIdeal.main_v37 rfl).trans (same_soft m m' c (hs c) (f c) (hf' c) (hk c))
    have e1 := (h c Cert.ReferenceIdeal.main_v52 rfl).trans (same_grid m m' c (hs c) (f c) (hf' c) (hk c))
    have e2 := (h c Cert.ReferenceIdeal.main_v36_8 rfl).trans (same_logp m m' c (hs c) (f c) (hf' c) (hk c))
    exact ⟨e0, e1, e2, ReferenceIdeal.args_keep m' c r.2 (h c)⟩

end Cert.Proof.Algebraic

end
-- ==== Proof.lean ====
/-
The proof of `Cert.Claim`.

* The frames: the two kernels' runs (Proof/Run/Kernel.lean, Proof/Run/KernelIdeal.lean) and the reference's
  (Proof/Run/ReferenceIdeal.lean).
* `preserves`: the two named constants, each by the rule's own statement.
* `algebraic`: Proof/Algebraic.lean.
-/
module

public import proofs.«01_k».proof.Defs
public import proofs.«01_k».proof.Proof.Run.Kernel
public import proofs.«01_k».proof.Proof.Run.KernelIdeal
public import proofs.«01_k».proof.Proof.Run.ReferenceIdeal
public import proofs.«01_k».proof.Proof.Finite
public import proofs.«01_k».proof.Proof.Algebraic

@[expose] public section

noncomputable section

namespace Cert.Proof

open Idealize.ShloMosaic

/-- The printed table gives the names `neg` and `off` the value `-∞`, and the two constants are read there. -/
theorem preserves : Cert.preserves_Kernel_KernelIdeal :=
  ⟨IdealRules.named_const.statement Cert.KernelIdeal.κ "neg" .f32 0xF149F2CA#32 ⊥ rfl,
   IdealRules.named_const.statement Cert.KernelIdeal.κ "off" .f32 0xCE6E6B28#32 ⊥ rfl⟩

theorem claim : Cert.Claim :=
  ⟨Cert.Kernel.Gen.facts, Cert.KernelIdeal.Gen.facts, Cert.ReferenceIdeal.Gen.facts, Finite.facts,
    fun m ρ _ => Kernel.frame m ρ,
    fun m ρ _ => KernelIdeal.frame m ρ,
    fun m ρ _ => KernelIdeal.frame m ρ,
    fun m ρ _ => ReferenceIdeal.frame m ρ,
    fun m ρ _ => ReferenceIdeal.frame m ρ,
    preserves,
    Algebraic.algebraic⟩

end Cert.Proof

end
